-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_all [hPre_finite_all : Cert.Pre_finite_all.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_all [hPre_finite_all : Cert.Pre_finite_all.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_all.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mod [hPre_finite_mod : Cert.Pre_finite_mod.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mod.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mod [hPre_finite_mod : Cert.Pre_finite_mod.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mod.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_all [hKernel3Ideal : Cert.Kernel3Ideal.Facts] [hPre_finite_all : Cert.Pre_finite_all.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_all m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_all [hReference3Ideal : Cert.Reference3Ideal.Facts] [hPre_finite_all : Cert.Pre_finite_all.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_all m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_mod [hKernel4Ideal : Cert.Kernel4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mod m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_mod [hReference4Ideal : Cert.Reference4Ideal.Facts] [hPre_finite_mod : Cert.Pre_finite_mod.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mod m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_on_context_rows_pre_finite [hKernelIdeal : Cert.KernelIdeal.Facts] [hReferenceIdeal : Cert.ReferenceIdeal.Facts] [hPre_finite : Cert.Pre_finite.Facts] [hOn_context_rows : Cert.On_context_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10240, 1024]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v29_0) i = v0 c i)
          ∧ (∀ i : (⟨2, ![8192, 128]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.KernelIdeal.nD Cert.KernelIdeal.τ).loc Cert.KernelIdeal.main_v29_1) i = v1 c i)
          ∧ (∀ i : (⟨2, ![8192, 128]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 i = 1#1 → r.2.mem ((c.tc : Thread Cert.KernelIdeal.nD Cert.KernelIdeal.τ).loc Cert.KernelIdeal.main_v29_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10240, 1024]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v173) i = v0 c i)
          ∧ (∀ i : (⟨2, ![8192, 128]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.ReferenceIdeal.nD Cert.ReferenceIdeal.τ).loc Cert.ReferenceIdeal.main_v174) i = v1 c i)
          ∧ (∀ i : (⟨2, ![8192, 128]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 i = 1#1 → r.2.mem ((c.tc : Thread Cert.ReferenceIdeal.nD Cert.ReferenceIdeal.τ).loc Cert.ReferenceIdeal.main_v175) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_on_context_rows_all_pre_finite_all [hKernel3Ideal : Cert.Kernel3Ideal.Facts] [hReference3Ideal : Cert.Reference3Ideal.Facts] [hPre_finite_all : Cert.Pre_finite_all.Facts] [hOn_context_rows_all : Cert.On_context_rows_all.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_all m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![10240, 1024]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 i = 1#1 → r.2.mem ((c.tc : Thread Cert.Kernel3Ideal.nD Cert.Kernel3Ideal.τ).loc Cert.Kernel3Ideal.main_v28_0) i = v0 c i)
          ∧ (∀ i : (⟨2, ![8192, 128]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 i = 1#1 → r.2.mem ((c.tc : Thread Cert.Kernel3Ideal.nD Cert.Kernel3Ideal.τ).loc Cert.Kernel3Ideal.main_v28_1) i = v1 c i)
          ∧ (∀ i : (⟨2, ![8192, 128]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2 i = 1#1 → r.2.mem ((c.tc : Thread Cert.Kernel3Ideal.nD Cert.Kernel3Ideal.τ).loc Cert.Kernel3Ideal.main_v28_2) i = v2 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![10240, 1024]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 i = 1#1 → r.2.mem ((c.tc : Thread Cert.Reference3Ideal.nD Cert.Reference3Ideal.τ).loc Cert.Reference3Ideal.main_v175) i = v0 c i)
          ∧ (∀ i : (⟨2, ![8192, 128]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 i = 1#1 → r.2.mem ((c.tc : Thread Cert.Reference3Ideal.nD Cert.Reference3Ideal.τ).loc Cert.Reference3Ideal.main_v176) i = v1 c i)
          ∧ (∀ i : (⟨2, ![8192, 128]⟩ : Shape).Idx, (Cert.On_context_rows_all.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2 i = 1#1 → r.2.mem ((c.tc : Thread Cert.Reference3Ideal.nD Cert.Reference3Ideal.τ).loc Cert.Reference3Ideal.main_v177) i = v2 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite_mod [hKernel4Ideal : Cert.Kernel4Ideal.Facts] [hReference4Ideal : Cert.Reference4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mod m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_all : Cert.Pre_finite_all.Facts) (hPre_finite_mod : Cert.Pre_finite_mod.Facts) (hOn_context_rows : Cert.On_context_rows.Facts) (hOn_context_rows_all : Cert.On_context_rows_all.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_all (hKernel3Ideal := hKernel3Ideal) (hPre_finite_all := hPre_finite_all)
    ∧ quiescent_Reference3Ideal (hReference3Ideal := hReference3Ideal)
    ∧ quiescent_Reference3Ideal_pre_finite_all (hReference3Ideal := hReference3Ideal) (hPre_finite_all := hPre_finite_all)
    ∧ quiescent_Kernel4 (hKernel4 := hKernel4)
    ∧ quiescent_Kernel4Ideal (hKernel4Ideal := hKernel4Ideal)
    ∧ quiescent_Kernel4Ideal_pre_finite_mod (hKernel4Ideal := hKernel4Ideal) (hPre_finite_mod := hPre_finite_mod)
    ∧ quiescent_Reference4Ideal (hReference4Ideal := hReference4Ideal)
    ∧ quiescent_Reference4Ideal_pre_finite_mod (hReference4Ideal := hReference4Ideal) (hPre_finite_mod := hPre_finite_mod)
    ∧ preserves_Kernel_KernelIdeal
    ∧ algebraic_KernelIdeal_ReferenceIdeal_on_context_rows_pre_finite (hKernelIdeal := hKernelIdeal) (hReferenceIdeal := hReferenceIdeal) (hPre_finite := hPre_finite) (hOn_context_rows := hOn_context_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_context_rows_all_pre_finite_all (hKernel3Ideal := hKernel3Ideal) (hReference3Ideal := hReference3Ideal) (hPre_finite_all := hPre_finite_all) (hOn_context_rows_all := hOn_context_rows_all)
    ∧ preserves_Kernel4_Kernel4Ideal
    ∧ algebraic_Kernel4Ideal_Reference4Ideal_pre_finite_mod (hKernel4Ideal := hKernel4Ideal) (hReference4Ideal := hReference4Ideal) (hPre_finite_mod := hPre_finite_mod)
-- ==== On_context_rows.lean ====
abbrev S32x256x1024 : Shape := ⟨3, ![32, 256, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S10240x1024 : Shape := ⟨2, ![10240, 1024]⟩
abbrev S8192x128 : Shape := ⟨2, ![8192, 128]⟩
abbrev S_ : Shape := ⟨0, ![]⟩

class Facts : Prop where
  bcast_S_S10240x1024 : S_.BroadcastsInDim S10240x1024 (![] : Fin 0 → Fin S10240x1024.rank)
  bcast_S_S8192x128 : S_.BroadcastsInDim S8192x128 (![] : Fin 0 → Fin S8192x128.rank)

variable [Facts]

def fn {F : FTy → Type} [FloatOps F] (main_arg0 : FVec F S32x256x1024 .f32) (main_arg1 : FVec F S3x6x1024 .f32) (main_arg2 : FVec F S1024x2048 .f32) (main_arg3 : FVec F S1024x1024 .f32) (main_arg4 : FVec F S64 .f32) (main_arg5 : FVec F S64 .f32) (main_arg6 : FVec F S3x256 .f32) (main_arg7 : FVec F S256 .f32) (main_arg8 : FVec F S256 .f32) (main_arg9 : FVec F S4x128x128 .f32) (main_arg10 : FVec F S4x128 .f32) (main_arg11 : FVec F S1024 .f32) (main_arg12 : FVec F S1024 .f32) : IVec S10240x1024 1 × IVec S8192x128 1 × IVec S8192x128 1 :=
  let main_v0 : IVec S10240x1024 32 := iotaInDim S10240x1024 32 0
  let main_v1 : IVec S8192x128 32 := iotaInDim S8192x128 32 0
  let main_c : IVec S_ 32 := constantI S_ 32 8192#32
  let main_v2 : IVec S10240x1024 32 := broadcastInDim S10240x1024 ![] bcast_S_S10240x1024 main_c
  let main_v3 : IVec S10240x1024 1 := cmpi .slt main_v0 main_v2
  let main_c_0 : IVec S_ 32 := constantI S_ 32 0#32
  let main_v4 : IVec S8192x128 32 := broadcastInDim S8192x128 ![] bcast_S_S8192x128 main_c_0
  let main_v5 : IVec S8192x128 1 := cmpi .sge main_v1 main_v4
  let main_c_1 : IVec S_ 32 := constantI S_ 32 0#32
  let main_v6 : IVec S8192x128 32 := broadcastInDim S8192x128 ![] bcast_S_S8192x128 main_c_1
  let main_v7 : IVec S8192x128 1 := cmpi .sge main_v1 main_v6
  (main_v3, main_v5, main_v7)
-- ==== On_context_rows_all.lean ====
abbrev S10240x1024 : Shape := ⟨2, ![10240, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S8192x128 : Shape := ⟨2, ![8192, 128]⟩
abbrev S_ : Shape := ⟨0, ![]⟩

class Facts : Prop where
  bcast_S_S10240x1024 : S_.BroadcastsInDim S10240x1024 (![] : Fin 0 → Fin S10240x1024.rank)
  bcast_S_S8192x128 : S_.BroadcastsInDim S8192x128 (![] : Fin 0 → Fin S8192x128.rank)

variable [Facts]

def fn {F : FTy → Type} [FloatOps F] (main_arg0 : FVec F S10240x1024 .f32) (main_arg1 : FVec F S3x6x1024 .f32) (main_arg2 : FVec F S1024x2048 .f32) (main_arg3 : FVec F S1024x1024 .f32) (main_arg4 : FVec F S64 .f32) (main_arg5 : FVec F S64 .f32) (main_arg6 : FVec F S3x256 .f32) (main_arg7 : FVec F S256 .f32) (main_arg8 : FVec F S256 .f32) (main_arg9 : FVec F S4x128x128 .f32) (main_arg10 : FVec F S4x128 .f32) (main_arg11 : FVec F S1024 .f32) (main_arg12 : FVec F S1024 .f32) : IVec S10240x1024 1 × IVec S8192x128 1 × IVec S8192x128 1 :=
  let main_v0 : IVec S10240x1024 32 := iotaInDim S10240x1024 32 0
  let main_v1 : IVec S8192x128 32 := iotaInDim S8192x128 32 0
  let main_c : IVec S_ 32 := constantI S_ 32 8192#32
  let main_v2 : IVec S10240x1024 32 := broadcastInDim S10240x1024 ![] bcast_S_S10240x1024 main_c
  let main_v3 : IVec S10240x1024 1 := cmpi .slt main_v0 main_v2
  let main_c_0 : IVec S_ 32 := constantI S_ 32 0#32
  let main_v4 : IVec S8192x128 32 := broadcastInDim S8192x128 ![] bcast_S_S8192x128 main_c_0
  let main_v5 : IVec S8192x128 1 := cmpi .sge main_v1 main_v4
  let main_c_1 : IVec S_ 32 := constantI S_ 32 0#32
  let main_v6 : IVec S8192x128 32 := broadcastInDim S8192x128 ![] bcast_S_S8192x128 main_c_1
  let main_v7 : IVec S8192x128 1 := cmpi .sge main_v1 main_v6
  (main_v3, main_v5, main_v7)
-- ==== Pre_finite.lean ====
abbrev S32x256x1024 : Shape := ⟨3, ![32, 256, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S_ : Shape := ⟨0, ![]⟩

class Facts : Prop where
  reducesTo_S32x256x1024_S_d0_1_2 : S32x256x1024.ReducesTo [0, 1, 2] S_
  h_S_ : 0 < S_.numel
  reducesTo_S3x6x1024_S_d0_1_2 : S3x6x1024.ReducesTo [0, 1, 2] S_
  reducesTo_S1024x2048_S_d0_1 : S1024x2048.ReducesTo [0, 1] S_
  reducesTo_S64_S_d0 : S64.ReducesTo [0] S_

variable [Facts]

def fn_part1 {F : FTy → Type} [FloatOps F] (main_v14 : IVec S_ 1) (main_v15 : FVec F S64 .f32) : IVec S_ 1 :=
  let main_cst_7 : FVec F S_ .f32 := constant S_ .f32 0xFF800000#32
  let main_v16 : FVec F S_ .f32 := (fun x v => Host.reduce FloatOps.maximumf x v reducesTo_S64_S_d0 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  main_v18

def fn {F : FTy → Type} [FloatOps F] (main_arg0 : FVec F S32x256x1024 .f32) (main_arg1 : FVec F S3x6x1024 .f32) (main_arg2 : FVec F S1024x2048 .f32) (main_arg3 : FVec F S1024x1024 .f32) (main_arg4 : FVec F S64 .f32) (main_arg5 : FVec F S64 .f32) (main_arg6 : FVec F S3x256 .f32) (main_arg7 : FVec F S256 .f32) (main_arg8 : FVec F S256 .f32) (main_arg9 : FVec F S4x128x128 .f32) (main_arg10 : FVec F S4x128 .f32) (main_arg11 : FVec F S1024 .f32) (main_arg12 : FVec F S1024 .f32) : IVec S_ 1 :=
  let main_v0 : FVec F S32x256x1024 .f32 := Host.absf main_arg0
  let main_cst : FVec F S_ .f32 := constant S_ .f32 0xFF800000#32
  let main_v1 : FVec F S_ .f32 := (fun x v => Host.reduce FloatOps.maximumf x v reducesTo_S32x256x1024_S_d0_1_2 h_S_) main_v0 main_cst
  let main_cst_0 : FVec F S_ .f32 := constant S_ .f32 0x7F800000#32
  let main_v2 : IVec S_ 1 := cmpf .olt main_v1 main_cst_0
  let main_v3 : FVec F S3x6x1024 .f32 := Host.absf main_arg1
  let main_cst_1 : FVec F S_ .f32 := constant S_ .f32 0xFF800000#32
  let main_v4 : FVec F S_ .f32 := (fun x v => Host.reduce FloatOps.maximumf x v reducesTo_S3x6x1024_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024x2048 .f32 := Host.absf main_arg2
  let main_cst_3 : FVec F S_ .f32 := constant S_ .f32 0xFF800000#32
  let main_v8 : FVec F S_ .f32 := (fun x v => Host.reduce FloatOps.maximumf x v reducesTo_S1024x2048_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S64 .f32 := Host.absf main_arg4
  let main_cst_5 : FVec F S_ .f32 := constant S_ .f32 0xFF800000#32
  let main_v12 : FVec F S_ .f32 := (fun x v => Host.reduce FloatOps.maximumf x v reducesTo_S64_S_d0 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S64 .f32 := Host.absf main_arg5
  fn_part1 (F := F) main_v14 main_v15
-- ==== Pre_finite_all.lean ====
abbrev S10240x1024 : Shape := ⟨2, ![10240, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S8192x1024 : Shape := ⟨2, ![8192, 1024]⟩
abbrev S32x256x1024 : Shape := ⟨3, ![32, 256, 1024]⟩
abbrev S_ : Shape := ⟨0, ![]⟩

class Facts : Prop where
  slices_S10240x1024_S8192x1024_0_0 : S10240x1024.Slices ![0, 0] S8192x1024
  shapeCasts_S8192x1024_S32x256x1024 : S8192x1024.ShapeCasts S32x256x1024
  reducesTo_S32x256x1024_S_d0_1_2 : S32x256x1024.ReducesTo [0, 1, 2] S_
  h_S_ : 0 < S_.numel
  reducesTo_S3x6x1024_S_d0_1_2 : S3x6x1024.ReducesTo [0, 1, 2] S_
  reducesTo_S1024x2048_S_d0_1 : S1024x2048.ReducesTo [0, 1] S_
  reducesTo_S64_S_d0 : S64.ReducesTo [0] S_

variable [Facts]

def fn_part1 {F : FTy → Type} [FloatOps F] (main_arg5 : FVec F S64 .f32) (main_v12 : IVec S_ 1) (main_v15 : IVec S_ 1) : IVec S_ 1 :=
  let main_v16 : IVec S_ 1 := andi main_v12 main_v15
  let main_v17 : FVec F S64 .f32 := Host.absf main_arg5
  let main_cst_7 : FVec F S_ .f32 := constant S_ .f32 0xFF800000#32
  let main_v18 : FVec F S_ .f32 := (fun x v => Host.reduce FloatOps.maximumf x v reducesTo_S64_S_d0 h_S_) main_v17 main_cst_7
  let main_cst_8 : FVec F S_ .f32 := constant S_ .f32 0x7F800000#32
  let main_v19 : IVec S_ 1 := cmpf .olt main_v18 main_cst_8
  let main_v20 : IVec S_ 1 := andi main_v16 main_v19
  main_v20

def fn {F : FTy → Type} [FloatOps F] (main_arg0 : FVec F S10240x1024 .f32) (main_arg1 : FVec F S3x6x1024 .f32) (main_arg2 : FVec F S1024x2048 .f32) (main_arg3 : FVec F S1024x1024 .f32) (main_arg4 : FVec F S64 .f32) (main_arg5 : FVec F S64 .f32) (main_arg6 : FVec F S3x256 .f32) (main_arg7 : FVec F S256 .f32) (main_arg8 : FVec F S256 .f32) (main_arg9 : FVec F S4x128x128 .f32) (main_arg10 : FVec F S4x128 .f32) (main_arg11 : FVec F S1024 .f32) (main_arg12 : FVec F S1024 .f32) : IVec S_ 1 :=
  let main_v0 : FVec F S8192x1024 .f32 := (extractStridedSlice S8192x1024 ![0, 0] · slices_S10240x1024_S8192x1024_0_0) main_arg0
  let main_v1 : FVec F S32x256x1024 .f32 := shapeCast S32x256x1024 main_v0 shapeCasts_S8192x1024_S32x256x1024
  let main_v2 : FVec F S32x256x1024 .f32 := Host.absf main_v1
  let main_cst : FVec F S_ .f32 := constant S_ .f32 0xFF800000#32
  let main_v3 : FVec F S_ .f32 := (fun x v => Host.reduce FloatOps.maximumf x v reducesTo_S32x256x1024_S_d0_1_2 h_S_) main_v2 main_cst
  let main_cst_0 : FVec F S_ .f32 := constant S_ .f32 0x7F800000#32
  let main_v4 : IVec S_ 1 := cmpf .olt main_v3 main_cst_0
  let main_v5 : FVec F S3x6x1024 .f32 := Host.absf main_arg1
  let main_cst_1 : FVec F S_ .f32 := constant S_ .f32 0xFF800000#32
  let main_v6 : FVec F S_ .f32 := (fun x v => Host.reduce FloatOps.maximumf x v reducesTo_S3x6x1024_S_d0_1_2 h_S_) main_v5 main_cst_1
  let main_cst_2 : FVec F S_ .f32 := constant S_ .f32 0x7F800000#32
  let main_v7 : IVec S_ 1 := cmpf .olt main_v6 main_cst_2
  let main_v8 : IVec S_ 1 := andi main_v4 main_v7
  let main_v9 : FVec F S1024x2048 .f32 := Host.absf main_arg2
  let main_cst_3 : FVec F S_ .f32 := constant S_ .f32 0xFF800000#32
  let main_v10 : FVec F S_ .f32 := (fun x v => Host.reduce FloatOps.maximumf x v reducesTo_S1024x2048_S_d0_1 h_S_) main_v9 main_cst_3
  let main_cst_4 : FVec F S_ .f32 := constant S_ .f32 0x7F800000#32
  let main_v11 : IVec S_ 1 := cmpf .olt main_v10 main_cst_4
  let main_v12 : IVec S_ 1 := andi main_v8 main_v11
  let main_v13 : FVec F S64 .f32 := Host.absf main_arg4
  let main_cst_5 : FVec F S_ .f32 := constant S_ .f32 0xFF800000#32
  let main_v14 : FVec F S_ .f32 := (fun x v => Host.reduce FloatOps.maximumf x v reducesTo_S64_S_d0 h_S_) main_v13 main_cst_5
  let main_cst_6 : FVec F S_ .f32 := constant S_ .f32 0x7F800000#32
  let main_v15 : IVec S_ 1 := cmpf .olt main_v14 main_cst_6
  fn_part1 (F := F) main_arg5 main_v12 main_v15
-- ==== Pre_finite_mod.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  reducesTo_S2x1024_S_d0_1 : S2x1024.ReducesTo [0, 1] S_
  h_S_ : 0 < S_.numel
  reducesTo_S1024_S_d0 : S1024.ReducesTo [0] S_
  reducesTo_S2x1024x6144_S_d0_1_2 : S2x1024x6144.ReducesTo [0, 1, 2] S_

variable [Facts]

def fn {F : FTy → Type} [FloatOps F] (main_arg0 : FVec F S2x1024 .f32) (main_arg1 : FVec F S1024 .f32) (main_arg2 : FVec F S2x1024x6144 .f32) (main_arg3 : FVec F S2x6144 .f32) : IVec S_ 1 :=
  let main_v0 : FVec F S2x1024 .f32 := Host.absf main_arg0
  let main_cst : FVec F S_ .f32 := constant S_ .f32 0xFF800000#32
  let main_v1 : FVec F S_ .f32 := (fun x v => Host.reduce FloatOps.maximumf x v reducesTo_S2x1024_S_d0_1 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S2x1024x6144 .f32 := Host.absf main_arg2
  let main_cst_3 : FVec F S_ .f32 := constant S_ .f32 0xFF800000#32
  let main_v8 : FVec F S_ .f32 := (fun x v => Host.reduce FloatOps.maximumf x v reducesTo_S2x1024x6144_S_d0_1_2 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Kernel.lean ====
abbrev S32x256x1024 : Shape := ⟨3, ![32, 256, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S_ : Shape := ⟨0, ![]⟩
abbrev S3x8x1024 : Shape := ⟨3, ![3, 8, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8192x1024 : Shape := ⟨2, ![8192, 1024]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S8x256 : Shape := ⟨2, ![8, 256]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S10240x1024 : Shape := ⟨2, ![10240, 1024]⟩
abbrev S8192x128 : Shape := ⟨2, ![8192, 128]⟩
abbrev S256x1024 : Shape := ⟨2, ![256, 1024]⟩
abbrev S1x8x1024 : Shape := ⟨3, ![1, 8, 1024]⟩
abbrev S256x128 : Shape := ⟨2, ![256, 128]⟩
abbrev S256x512 : Shape := ⟨2, ![256, 512]⟩
abbrev S4x256x128 : Shape := ⟨3, ![4, 256, 128]⟩
abbrev S256x256 : Shape := ⟨2, ![256, 256]⟩
abbrev S256x1 : Shape := ⟨2, ![256, 1]⟩
abbrev S1x1x1024 : Shape := ⟨3, ![1, 1, 1024]⟩
abbrev S256x2048 : Shape := ⟨2, ![256, 2048]⟩
abbrev S128x128 : Shape := ⟨2, ![128, 128]⟩
abbrev S1x256x128 : Shape := ⟨3, ![1, 256, 128]⟩
abbrev S1x128x128 : Shape := ⟨3, ![1, 128, 128]⟩

abbrev nBuf : Space → Nat
  | .hbm => 66
  | .vmem => 29
  | .smem => 0
  | _ => 0

abbrev bufTy : (tb : Table) → Fin (tcTables nBuf tb) → BufTy
  | .hbm, ⟨0, _⟩ => ⟨S32x256x1024, .f32⟩
  | .hbm, ⟨1, _⟩ => ⟨S3x6x1024, .f32⟩
  | .hbm, ⟨2, _⟩ => ⟨S1024x2048, .f32⟩
  | .hbm, ⟨3, _⟩ => ⟨S1024x1024, .f32⟩
  | .hbm, ⟨4, _⟩ => ⟨S64, .f32⟩
  | .hbm, ⟨5, _⟩ => ⟨S64, .f32⟩
  | .hbm, ⟨6, _⟩ => ⟨S3x256, .f32⟩
  | .hbm, ⟨7, _⟩ => ⟨S256, .f32⟩
  | .hbm, ⟨8, _⟩ => ⟨S256, .f32⟩
  | .hbm, ⟨9, _⟩ => ⟨S4x128x128, .f32⟩
  | .hbm, ⟨10, _⟩ => ⟨S4x128, .f32⟩
  | .hbm, ⟨11, _⟩ => ⟨S1024, .f32⟩
  | .hbm, ⟨12, _⟩ => ⟨S1024, .f32⟩
  | .hbm, ⟨13, _⟩ => ⟨S_, .i32⟩
  | .hbm, ⟨14, _⟩ => ⟨S_, .f32⟩
  | .hbm, ⟨15, _⟩ => ⟨S3x8x1024, .f32⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S8192x1024, .f32⟩
  | .hbm, ⟨42, _⟩ => ⟨S1024x2048, .bf16⟩
  | .hbm, ⟨43, _⟩ => ⟨S1024x1024, .bf16⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1x128, .f32⟩
  | .hbm, ⟨52, _⟩ => ⟨S_, .i32⟩
  | .hbm, ⟨53, _⟩ => ⟨S_, .f32⟩
  | .hbm, ⟨54, _⟩ => ⟨S8x256, .f32⟩
  | .hbm, ⟨55, _⟩ => ⟨S1x256, .f32⟩
  | .hbm, ⟨56, _⟩ => ⟨S1x256, .f32⟩
  | .hbm, ⟨57, _⟩ => ⟨S4x128x128, .bf16⟩
  | .hbm, ⟨58, _⟩ => ⟨S128x4, .f32⟩
  | .hbm, ⟨59, _⟩ => ⟨S128x4x64, .f32⟩
  | .hbm, ⟨60, _⟩ => ⟨S128x256, .f32⟩
  | .hbm, ⟨61, _⟩ => ⟨S1x1024, .f32⟩
  | .hbm, ⟨62, _⟩ => ⟨S1x1024, .f32⟩
  | .hbm, ⟨63, _⟩ => ⟨S10240x1024, .f32⟩
  | .hbm, ⟨64, _⟩ => ⟨S8192x128, .f32⟩
  | .hbm, ⟨65, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1024x2048, .bf16⟩
  | .local _ .vmem, ⟨4, _⟩ => ⟨S1024x1024, .bf16⟩
  | .local _ .vmem, ⟨5, _⟩ => ⟨S1x512, .f32⟩
  | .local _ .vmem, ⟨6, _⟩ => ⟨S1x128, .f32⟩
  | .local _ .vmem, ⟨7, _⟩ => ⟨S512x512, .bf16⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S4x128x128, .bf16⟩
  | .local _ .vmem, ⟨12, _⟩ => ⟨S128x256, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x512, .bf16⟩
  | .local _ .vmem, ⟨22, _⟩ => ⟨S4x256x128, .bf16⟩
  | .local _ .vmem, ⟨23, _⟩ => ⟨S4x256x128, .bf16⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .bf16⟩
  | .local _ .vmem, ⟨28, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_1 : Ref sig .tc := ⟨.hbm, 52, rfl⟩
abbrev main_call2_v0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29_0 : Ref sig .tc := ⟨.hbm, 63, rfl⟩
abbrev main_v29_1 : Ref sig .tc := ⟨.hbm, 64, rfl⟩
abbrev main_v29_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S32x256x1024 : Shape := ⟨3, ![32, 256, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x2048 : Shape := ⟨3, ![32, 256, 2048]⟩
abbrev S32x256x512 : Shape := ⟨3, ![32, 256, 512]⟩
abbrev S32x256x128 : Shape := ⟨3, ![32, 256, 128]⟩
abbrev S32x256x256 : Shape := ⟨3, ![32, 256, 256]⟩
abbrev S32x256x2x4x64 : Shape := ⟨5, ![32, 256, 2, 4, 64]⟩
abbrev S32x256x2x4 : Shape := ⟨4, ![32, 256, 2, 4]⟩
abbrev S32x256x2x4x1 : Shape := ⟨5, ![32, 256, 2, 4, 1]⟩
abbrev S1x1x1x1x64 : Shape := ⟨5, ![1, 1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S1x1x1x64 : Shape := ⟨4, ![1, 1, 1, 64]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S32x258x256 : Shape := ⟨3, ![32, 258, 256]⟩
abbrev S1x256 : Shape := ⟨2, ![1, 256]⟩
abbrev S1x1x256 : Shape := ⟨3, ![1, 1, 256]⟩
abbrev S32x2x128x4x64 : Shape := ⟨5, ![32, 2, 128, 4, 64]⟩
abbrev S32x2x128x4 : Shape := ⟨4, ![32, 2, 128, 4]⟩
abbrev S32x2x128x4x1 : Shape := ⟨5, ![32, 2, 128, 4, 1]⟩
abbrev S4x64 : Shape := ⟨2, ![4, 64]⟩
abbrev S1x1x1x4x64 : Shape := ⟨5, ![1, 1, 1, 4, 64]⟩
abbrev S4x32x2x64x128 : Shape := ⟨5, ![4, 32, 2, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x1024 : Shape := ⟨2, ![8192, 1024]⟩
abbrev S10240x1024 : Shape := ⟨2, ![10240, 1024]⟩
abbrev S8192x128 : Shape := ⟨2, ![8192, 128]⟩

abbrev nBuf : Space → Nat
  | .hbm => 220
  | .vmem => 0
  | .smem => 0
  | _ => 0

abbrev hbmTy0_0 (i : Nat) : BufTy := match i % 128 with
  | 0 => ⟨S32x256x1024, .f32⟩
  | 1 => ⟨S3x6x1024, .f32⟩
  | 2 => ⟨S1024x2048, .f32⟩
  | 3 => ⟨S1024x1024, .f32⟩
  | 4 => ⟨S64, .f32⟩
  | 5 => ⟨S64, .f32⟩
  | 6 => ⟨S3x256, .f32⟩
  | 7 => ⟨S256, .f32⟩
  | 8 => ⟨S256, .f32⟩
  | 9 => ⟨S4x128x128, .f32⟩
  | 10 => ⟨S4x128, .f32⟩
  | 11 => ⟨S1024, .f32⟩
  | 12 => ⟨S1024, .f32⟩
  | 13 => ⟨S1x1x1024, .f32⟩
  | 14 => ⟨S1024, .f32⟩
  | 15 => ⟨S1x1x1024, .f32⟩
  | 16 => ⟨S1024, .f32⟩
  | 17 => ⟨S1x1x1024, .f32⟩
  | 18 => ⟨S1024, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S32x256x1024, .f32⟩
  | 26 => ⟨S32x256x1024, .f32⟩
  | 27 => ⟨S32x256x1024, .f32⟩
  | 28 => ⟨S_, .f32⟩
  | 29 => ⟨S32x256, .f32⟩
  | 30 => ⟨S32x256x1, .f32⟩
  | 31 => ⟨S_, .f32⟩
  | 32 => ⟨S32x256x1, .f32⟩
  | 33 => ⟨S32x256x1, .f32⟩
  | 34 => ⟨S_, .f32⟩
  | 35 => ⟨S32x256x1, .f32⟩
  | 36 => ⟨S32x256x1, .f32⟩
  | 37 => ⟨S32x256x1, .f32⟩
  | 38 => ⟨S32x256x1024, .f32⟩
  | 39 => ⟨S32x256x1024, .f32⟩
  | 40 => ⟨S_, .f32⟩
  | 41 => ⟨S1024, .f32⟩
  | 42 => ⟨S1024, .f32⟩
  | 43 => ⟨S1x1x1024, .f32⟩
  | 44 => ⟨S32x256x1024, .f32⟩
  | 45 => ⟨S32x256x1024, .f32⟩
  | 46 => ⟨S1x1x1024, .f32⟩
  | 47 => ⟨S32x256x1024, .f32⟩
  | 48 => ⟨S32x256x1024, .f32⟩
  | 49 => ⟨S32x256x2048, .f32⟩
  | 50 => ⟨S32x256x512, .f32⟩
  | 51 => ⟨S32x256x128, .f32⟩
  | 52 => ⟨S32x256x128, .f32⟩
  | 53 => ⟨S32x256x256, .f32⟩
  | 54 => ⟨S32x256x256, .f32⟩
  | 55 => ⟨S32x256x256, .f32⟩
  | 56 => ⟨S32x256x256, .f32⟩
  | 57 => ⟨S32x256x256, .f32⟩
  | 58 => ⟨S32x256x2x4x64, .f32⟩
  | 59 => ⟨S32x256x2x4x64, .f32⟩
  | 60 => ⟨S_, .f32⟩
  | 61 => ⟨S32x256x2x4, .f32⟩
  | 62 => ⟨S32x256x2x4x1, .f32⟩
  | 63 => ⟨S_, .f32⟩
  | 64 => ⟨S32x256x2x4x1, .f32⟩
  | 65 => ⟨S32x256x2x4x1, .f32⟩
  | 66 => ⟨S_, .f32⟩
  | 67 => ⟨S32x256x2x4x1, .f32⟩
  | 68 => ⟨S32x256x2x4x1, .f32⟩
  | 69 => ⟨S32x256x2x4x1, .f32⟩
  | 70 => ⟨S32x256x2x4x64, .f32⟩
  | 71 => ⟨S32x256x2x4x64, .f32⟩
  | 72 => ⟨S1x1x1x1x64, .f32⟩
  | 73 => ⟨S32x256x2x4x64, .f32⟩
  | 74 => ⟨S32x256x2x4x64, .f32⟩
  | 75 => ⟨S32x256x2x64, .f32⟩
  | 76 => ⟨S32x256x2x64, .f32⟩
  | 77 => ⟨S_, .f32⟩
  | 78 => ⟨S32x256x2, .f32⟩
  | 79 => ⟨S32x256x2x1, .f32⟩
  | 80 => ⟨S_, .f32⟩
  | 81 => ⟨S32x256x2x1, .f32⟩
  | 82 => ⟨S32x256x2x1, .f32⟩
  | 83 => ⟨S_, .f32⟩
  | 84 => ⟨S32x256x2x1, .f32⟩
  | 85 => ⟨S32x256x2x1, .f32⟩
  | 86 => ⟨S32x256x2x1, .f32⟩
  | 87 => ⟨S32x256x2x64, .f32⟩
  | 88 => ⟨S32x256x2x64, .f32⟩
  | 89 => ⟨S1x1x1x64, .f32⟩
  | 90 => ⟨S32x256x2x64, .f32⟩
  | 91 => ⟨S32x256x2x64, .f32⟩
  | 92 => ⟨S32x256x2x64, .f32⟩
  | 93 => ⟨S32x2x256x256x4, .f32⟩
  | 94 => ⟨S32x2x4x256x256, .f32⟩
  | 95 => ⟨S_, .f32⟩
  | 96 => ⟨S32x2x4x256x256, .f32⟩
  | 97 => ⟨S32x2x4x256x256, .f32⟩
  | 98 => ⟨S_, .f32⟩
  | 99 => ⟨S32x2x4x256, .f32⟩
  | 100 => ⟨S_, .f32⟩
  | 101 => ⟨S32x2x4x256, .f32⟩
  | 102 => ⟨S32x2x4x256, .f32⟩
  | 103 => ⟨S32x2x4x256x1, .f32⟩
  | 104 => ⟨S32x2x4x256x256, .f32⟩
  | 105 => ⟨S32x2x4x256x256, .f32⟩
  | 106 => ⟨S32x2x4x256x256, .f32⟩
  | 107 => ⟨S_, .f32⟩
  | 108 => ⟨S32x2x4x256, .f32⟩
  | 109 => ⟨S32x2x4x256x1, .f32⟩
  | 110 => ⟨S32x2x4x256x256, .f32⟩
  | 111 => ⟨S32x2x4x256x256, .f32⟩
  | 112 => ⟨S32x2x64x4x256, .f32⟩
  | 113 => ⟨S32x256x2x4x64, .f32⟩
  | 114 => ⟨S32x256x512, .f32⟩
  | 115 => ⟨S32x256x256, .f32⟩
  | 116 => ⟨S_, .i32⟩
  | 117 => ⟨S_, .f32⟩
  | 118 => ⟨S32x258x256, .f32⟩
  | 119 => ⟨S32x256x256, .f32⟩
  | 120 => ⟨S1x256, .f32⟩
  | 121 => ⟨S256, .f32⟩
  | 122 => ⟨S1x1x256, .f32⟩
  | 123 => ⟨S32x256x256, .f32⟩
  | 124 => ⟨S32x256x256, .f32⟩
  | 125 => ⟨S32x256x256, .f32⟩
  | 126 => ⟨S1x256, .f32⟩
  | 127 => ⟨S256, .f32⟩
  | _ => ⟨S32x256x1024, .f32⟩

abbrev hbmTy0_1 (i : Nat) : BufTy := match i % 128 with
  | 0 => ⟨S1x1x256, .f32⟩
  | 1 => ⟨S32x256x256, .f32⟩
  | 2 => ⟨S32x256x256, .f32⟩
  | 3 => ⟨S32x256x256, .f32⟩
  | 4 => ⟨S32x256x256, .f32⟩
  | 5 => ⟨S1x256, .f32⟩
  | 6 => ⟨S256, .f32⟩
  | 7 => ⟨S1x1x256, .f32⟩
  | 8 => ⟨S32x256x256, .f32⟩
  | 9 => ⟨S32x256x256, .f32⟩
  | 10 => ⟨S32x256x256, .f32⟩
  | 11 => ⟨S1x1x256, .f32⟩
  | 12 => ⟨S32x256x256, .f32⟩
  | 13 => ⟨S32x256x256, .f32⟩
  | 14 => ⟨S32x256x256, .f32⟩
  | 15 => ⟨S32x2x128x4x64, .f32⟩
  | 16 => ⟨S_, .f32⟩
  | 17 => ⟨S32x2x128x4, .f32⟩
  | 18 => ⟨S32x2x128x4x1, .f32⟩
  | 19 => ⟨S_, .f32⟩
  | 20 => ⟨S32x2x128x4x1, .f32⟩
  | 21 => ⟨S32x2x128x4x1, .f32⟩
  | 22 => ⟨S32x2x128x4x64, .f32⟩
  | 23 => ⟨S32x2x128x4x64, .f32⟩
  | 24 => ⟨S32x2x128x4x64, .f32⟩
  | 25 => ⟨S_, .f32⟩
  | 26 => ⟨S32x2x128x4, .f32⟩
  | 27 => ⟨S32x2x128x4x1, .f32⟩
  | 28 => ⟨S_, .f32⟩
  | 29 => ⟨S32x2x128x4x1, .f32⟩
  | 30 => ⟨S32x2x128x4x1, .f32⟩
  | 31 => ⟨S_, .f32⟩
  | 32 => ⟨S32x2x128x4x1, .f32⟩
  | 33 => ⟨S32x2x128x4x1, .f32⟩
  | 34 => ⟨S32x2x128x4x1, .f32⟩
  | 35 => ⟨S32x2x128x4x64, .f32⟩
  | 36 => ⟨S32x2x128x4x64, .f32⟩
  | 37 => ⟨S4x64, .f32⟩
  | 38 => ⟨S1x1x1x4x64, .f32⟩
  | 39 => ⟨S32x2x128x4x64, .f32⟩
  | 40 => ⟨S32x2x128x4x64, .f32⟩
  | 41 => ⟨S4x32x2x64x128, .f32⟩
  | 42 => ⟨S32x2x128x4x64, .f32⟩
  | 43 => ⟨S128x4, .f32⟩
  | 44 => ⟨S128x4x1, .f32⟩
  | 45 => ⟨S1x1x128x4x1, .f32⟩
  | 46 => ⟨S32x2x128x4x64, .f32⟩
  | 47 => ⟨S32x2x128x4x64, .f32⟩
  | 48 => ⟨S32x256x256, .f32⟩
  | 49 => ⟨S32x256x256, .f32⟩
  | 50 => ⟨S32x256x1024, .f32⟩
  | 51 => ⟨S32x256x1024, .f32⟩
  | 52 => ⟨S_, .f32⟩
  | 53 => ⟨S32x256x1024, .f32⟩
  | 54 => ⟨S32x256x1024, .f32⟩
  | 55 => ⟨S1x1x1024, .f32⟩
  | 56 => ⟨S32x256x1024, .f32⟩
  | 57 => ⟨S32x256x1024, .f32⟩
  | 58 => ⟨S32x256x1024, .f32⟩
  | 59 => ⟨S_, .f32⟩
  | 60 => ⟨S32x256, .f32⟩
  | 61 => ⟨S32x256x1, .f32⟩
  | 62 => ⟨S_, .f32⟩
  | 63 => ⟨S32x256x1, .f32⟩
  | 64 => ⟨S32x256x1, .f32⟩
  | 65 => ⟨S32x256x1024, .f32⟩
  | 66 => ⟨S32x256x1024, .f32⟩
  | 67 => ⟨S32x256x1024, .f32⟩
  | 68 => ⟨S_, .f32⟩
  | 69 => ⟨S32x256, .f32⟩
  | 70 => ⟨S32x256x1, .f32⟩
  | 71 => ⟨S_, .f32⟩
  | 72 => ⟨S32x256x1, .f32⟩
  | 73 => ⟨S32x256x1, .f32⟩
  | 74 => ⟨S_, .f32⟩
  | 75 => ⟨S32x256x1, .f32⟩
  | 76 => ⟨S32x256x1, .f32⟩
  | 77 => ⟨S32x256x1, .f32⟩
  | 78 => ⟨S32x256x1024, .f32⟩
  | 79 => ⟨S32x256x1024, .f32⟩
  | 80 => ⟨S1x1x1024, .f32⟩
  | 81 => ⟨S32x256x1024, .f32⟩
  | 82 => ⟨S32x256x1024, .f32⟩
  | 83 => ⟨S1x1x1024, .f32⟩
  | 84 => ⟨S32x256x1024, .f32⟩
  | 85 => ⟨S32x256x1024, .f32⟩
  | 86 => ⟨S8192x1024, .f32⟩
  | 87 => ⟨S_, .i32⟩
  | 88 => ⟨S_, .f32⟩
  | 89 => ⟨S10240x1024, .f32⟩
  | 90 => ⟨S8192x128, .f32⟩
  | 91 => ⟨S8192x128, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c : Ref sig .tc := ⟨.hbm, 116, rfl⟩
abbrev main_call0_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_15 : Ref sig .tc := ⟨.hbm, 144, rfl⟩
abbrev main_v113 : Ref sig .tc := ⟨.hbm, 145, rfl⟩
abbrev main_v114 : Ref sig .tc := ⟨.hbm, 146, rfl⟩
abbrev main_cst_16 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_17 : Ref sig .tc := ⟨.hbm, 153, rfl⟩
abbrev main_v120 : Ref sig .tc := ⟨.hbm, 154, rfl⟩
abbrev main_v121 : Ref sig .tc := ⟨.hbm, 155, rfl⟩
abbrev main_cst_18 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_20 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_cst_22 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_23 : Ref sig .tc := ⟨.hbm, 196, rfl⟩
abbrev main_v157 : Ref sig .tc := ⟨.hbm, 197, rfl⟩
abbrev main_v158 : Ref sig .tc := ⟨.hbm, 198, rfl⟩
abbrev main_cst_24 : Ref sig .tc := ⟨.hbm, 199, rfl⟩
abbrev main_v159 : Ref sig .tc := ⟨.hbm, 200, rfl⟩
abbrev main_v160 : Ref sig .tc := ⟨.hbm, 201, rfl⟩
abbrev main_cst_25 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_c_26 : Ref sig .tc := ⟨.hbm, 215, rfl⟩
abbrev main_call1_v0 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩

abbrev nD : Nat := 1
abbrev τ : Topo := Topo.v7x

variable {F : FTy → Type} [FloatOps F]
-- ==== Kernel2.lean ====
abbrev S10240x1024 : Shape := ⟨2, ![10240, 1024]⟩
abbrev S3x6x1024 : Shape := ⟨3, ![3, 6, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S3x8x1024 : Shape := ⟨3, ![3, 8, 1024]⟩
abbrev S1x1024 : Shape := ⟨2, ![1, 1024]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 16
  | .vmem => 11
  | .smem => 0
  | _ => 0

abbrev bufTy : (tb : Table) → Fin (tcTables nBuf tb) → BufTy
  | .hbm, ⟨0, _⟩ => ⟨S10240x1024, .f32⟩
  | .hbm, ⟨1, _⟩ => ⟨S3x6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S3x8x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S10240x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S10240x1024 : Shape := ⟨2, ![10240, 1024]⟩
abbrev S3x6x1024 : Shape := ⟨3, ![3, 6, 1024]⟩
abbrev S1024x2816 : Shape := ⟨2, ![1024, 2816]⟩
abbrev S2816x1024 : Shape := ⟨2, ![2816, 1024]⟩
abbrev S1024 : Shape := ⟨1, ![1024]⟩
abbrev S1x6x1024 : Shape := ⟨3, ![1, 6, 1024]⟩
abbrev S6x1024 : Shape := ⟨2, ![6, 1024]⟩
abbrev S8192x6x1024 : Shape := ⟨3, ![8192, 6, 1024]⟩
abbrev S1024x6x1024 : Shape := ⟨3, ![1024, 6, 1024]⟩
abbrev S10240x6x1024 : Shape := ⟨3, ![10240, 6, 1024]⟩
abbrev S10240x1x1024 : Shape := ⟨3, ![10240, 1, 1024]⟩
abbrev S_ : Shape := ⟨0, ![]⟩
abbrev S10240 : Shape := ⟨1, ![10240]⟩
abbrev S10240x1 : Shape := ⟨2, ![10240, 1]⟩
abbrev S10240x2816 : Shape := ⟨2, ![10240, 2816]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S3x6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1x6x1024, .f32⟩
  | .hbm, ⟨8, _⟩ => ⟨S6x1024, .f32⟩
  | .hbm, ⟨9, _⟩ => ⟨S1x6x1024, .f32⟩
  | .hbm, ⟨10, _⟩ => ⟨S8192x6x1024, .f32⟩
  | .hbm, ⟨11, _⟩ => ⟨S1x6x1024, .f32⟩
  | .hbm, ⟨12, _⟩ => ⟨S6x1024, .f32⟩
  | .hbm, ⟨13, _⟩ => ⟨S1x6x1024, .f32⟩
  | .hbm, ⟨14, _⟩ => ⟨S1024x6x1024, .f32⟩
  | .hbm, ⟨15, _⟩ => ⟨S1x6x1024, .f32⟩
  | .hbm, ⟨16, _⟩ => ⟨S6x1024, .f32⟩
  | .hbm, ⟨17, _⟩ => ⟨S1x6x1024, .f32⟩
  | .hbm, ⟨18, _⟩ => ⟨S1024x6x1024, .f32⟩
  | .hbm, ⟨19, _⟩ => ⟨S10240x6x1024, .f32⟩
  | .hbm, ⟨20, _⟩ => ⟨S10240x1x1024, .f32⟩
  | .hbm, ⟨21, _⟩ => ⟨S10240x1024, .f32⟩
  | .hbm, ⟨22, _⟩ => ⟨S10240x1x1024, .f32⟩
  | .hbm, ⟨23, _⟩ => ⟨S10240x1024, .f32⟩
  | .hbm, ⟨24, _⟩ => ⟨S10240x1x1024, .f32⟩
  | .hbm, ⟨25, _⟩ => ⟨S10240x1024, .f32⟩
  | .hbm, ⟨26, _⟩ => ⟨S_, .f32⟩
  | .hbm, ⟨27, _⟩ => ⟨S10240, .f32⟩
  | .hbm, ⟨28, _⟩ => ⟨S10240x1, .f32⟩
  | .hbm, ⟨29, _⟩ => ⟨S_, .f32⟩
  | .hbm, ⟨30, _⟩ => ⟨S10240x1, .f32⟩
  | .hbm, ⟨31, _⟩ => ⟨S10240x1, .f32⟩
  | .hbm, ⟨32, _⟩ => ⟨S10240x1024, .f32⟩
  | .hbm, ⟨33, _⟩ => ⟨S10240x1024, .f32⟩
  | .hbm, ⟨34, _⟩ => ⟨S10240x1024, .f32⟩
  | .hbm, ⟨35, _⟩ => ⟨S_, .f32⟩
  | .hbm, ⟨36, _⟩ => ⟨S10240, .f32⟩
  | .hbm, ⟨37, _⟩ => ⟨S10240x1, .f32⟩
  | .hbm, ⟨38, _⟩ => ⟨S_, .f32⟩
  | .hbm, ⟨39, _⟩ => ⟨S10240x1, .f32⟩
  | .hbm, ⟨40, _⟩ => ⟨S10240x1, .f32⟩
  | .hbm, ⟨41, _⟩ => ⟨S_, .f32⟩
  | .hbm, ⟨42, _⟩ => ⟨S10240x1, .f32⟩
  | .hbm, ⟨43, _⟩ => ⟨S10240x1, .f32⟩
  | .hbm, ⟨44, _⟩ => ⟨S10240x1, .f32⟩
  | .hbm, ⟨45, _⟩ => ⟨S10240x1024, .f32⟩
  | .hbm, ⟨46, _⟩ => ⟨S10240x1024, .f32⟩
  | .hbm, ⟨47, _⟩ => ⟨S_, .f32⟩
  | .hbm, ⟨48, _⟩ => ⟨S10240x1024, .f32⟩
  | .hbm, ⟨49, _⟩ => ⟨S10240x1024, .f32⟩
  | .hbm, ⟨50, _⟩ => ⟨S10240x1024, .f32⟩
  | .hbm, ⟨51, _⟩ => ⟨S10240x1024, .f32⟩
  | .hbm, ⟨52, _⟩ => ⟨S10240x2816, .f32⟩
  | .hbm, ⟨53, _⟩ => ⟨S10240x2816, .f32⟩
  | .hbm, ⟨54, _⟩ => ⟨S10240x2816, .f32⟩
  | .hbm, ⟨55, _⟩ => ⟨S_, .f32⟩
  | .hbm, ⟨56, _⟩ => ⟨S10240x2816, .f32⟩
  | .hbm, ⟨57, _⟩ => ⟨S10240x2816, .f32⟩
  | .hbm, ⟨58, _⟩ => ⟨S_, .f32⟩
  | .hbm, ⟨59, _⟩ => ⟨S10240x2816, .f32⟩
  | .hbm, ⟨60, _⟩ => ⟨S10240x2816, .f32⟩
  | .hbm, ⟨61, _⟩ => ⟨S10240x2816, .f32⟩
  | .hbm, ⟨62, _⟩ => ⟨S10240x2816, .f32⟩
  | .hbm, ⟨63, _⟩ => ⟨S10240x2816, .f32⟩
  | .hbm, ⟨64, _⟩ => ⟨S10240x1024, .f32⟩
  | .hbm, ⟨65, _⟩ => ⟨S_, .f32⟩
  | .hbm, ⟨66, _⟩ => ⟨S10240x1024, .f32⟩
  | .hbm, ⟨67, _⟩ => ⟨S10240x1024, .f32⟩
  | .hbm, ⟨68, _⟩ => ⟨S10240x1024, .f32⟩
  | .hbm, ⟨69, _⟩ => ⟨S10240x1024, .f32⟩
  | .hbm, ⟨70, _⟩ => ⟨S_, .f32⟩
  | .hbm, ⟨71, _⟩ => ⟨S10240, .f32⟩
  | .hbm, ⟨72, _⟩ => ⟨S10240x1, .f32⟩
  | .hbm, ⟨73, _⟩ => ⟨S_, .f32⟩
  | .hbm, ⟨74, _⟩ => ⟨S10240x1, .f32⟩
  | .hbm, ⟨75, _⟩ => ⟨S10240x1, .f32⟩
  | .hbm, ⟨76, _⟩ => ⟨S10240x1024, .f32⟩
  | .hbm, ⟨77, _⟩ => ⟨S10240x1024, .f32⟩
  | .hbm, ⟨78, _⟩ => ⟨S10240x1024, .f32⟩
  | .hbm, ⟨79, _⟩ => ⟨S_, .f32⟩
  | .hbm, ⟨80, _⟩ => ⟨S10240, .f32⟩
  | .hbm, ⟨81, _⟩ => ⟨S10240x1, .f32⟩
  | .hbm, ⟨82, _⟩ => ⟨S_, .f32⟩
  | .hbm, ⟨83, _⟩ => ⟨S10240x1, .f32⟩
  | .hbm, ⟨84, _⟩ => ⟨S10240x1, .f32⟩
  | .hbm, ⟨85, _⟩ => ⟨S_, .f32⟩
  | .hbm, ⟨86, _⟩ => ⟨S10240x1, .f32⟩
  | .hbm, ⟨87, _⟩ => ⟨S10240x1, .f32⟩
  | .hbm, ⟨88, _⟩ => ⟨S10240x1, .f32⟩
  | .hbm, ⟨89, _⟩ => ⟨S10240x1024, .f32⟩
  | .hbm, ⟨90, _⟩ => ⟨S10240x1024, .f32⟩
  | .hbm, ⟨91, _⟩ => ⟨S1x1024, .f32⟩
  | .hbm, ⟨92, _⟩ => ⟨S10240x1024, .f32⟩
  | .hbm, ⟨93, _⟩ => ⟨S10240x1024, .f32⟩
  | .hbm, ⟨94, _⟩ => ⟨S1x1024, .f32⟩
  | .hbm, ⟨95, _⟩ => ⟨S10240x1024, .f32⟩
  | .hbm, ⟨96, _⟩ => ⟨S10240x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Kernel3.lean ====
abbrev S10240x1024 : Shape := ⟨2, ![10240, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S_ : Shape := ⟨0, ![]⟩
abbrev S3x8x1024 : Shape := ⟨3, ![3, 8, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S8x256 : Shape := ⟨2, ![8, 256]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S8192x128 : Shape := ⟨2, ![8192, 128]⟩
abbrev S256x1024 : Shape := ⟨2, ![256, 1024]⟩
abbrev S1x8x1024 : Shape := ⟨3, ![1, 8, 1024]⟩
abbrev S256x128 : Shape := ⟨2, ![256, 128]⟩
abbrev S256x512 : Shape := ⟨2, ![256, 512]⟩
abbrev S4x256x128 : Shape := ⟨3, ![4, 256, 128]⟩
abbrev S256x256 : Shape := ⟨2, ![256, 256]⟩
abbrev S256x1 : Shape := ⟨2, ![256, 1]⟩
abbrev S1x1x1024 : Shape := ⟨3, ![1, 1, 1024]⟩
abbrev S256x2048 : Shape := ⟨2, ![256, 2048]⟩
abbrev S128x128 : Shape := ⟨2, ![128, 128]⟩
abbrev S1x256x128 : Shape := ⟨3, ![1, 256, 128]⟩
abbrev S1x128x128 : Shape := ⟨3, ![1, 128, 128]⟩

abbrev nBuf : Space → Nat
  | .hbm => 65
  | .vmem => 29
  | .smem => 0
  | _ => 0

abbrev bufTy : (tb : Table) → Fin (tcTables nBuf tb) → BufTy
  | .hbm, ⟨0, _⟩ => ⟨S10240x1024, .f32⟩
  | .hbm, ⟨1, _⟩ => ⟨S3x6x1024, .f32⟩
  | .hbm, ⟨2, _⟩ => ⟨S1024x2048, .f32⟩
  | .hbm, ⟨3, _⟩ => ⟨S1024x1024, .f32⟩
  | .hbm, ⟨4, _⟩ => ⟨S64, .f32⟩
  | .hbm, ⟨5, _⟩ => ⟨S64, .f32⟩
  | .hbm, ⟨6, _⟩ => ⟨S3x256, .f32⟩
  | .hbm, ⟨7, _⟩ => ⟨S256, .f32⟩
  | .hbm, ⟨8, _⟩ => ⟨S256, .f32⟩
  | .hbm, ⟨9, _⟩ => ⟨S4x128x128, .f32⟩
  | .hbm, ⟨10, _⟩ => ⟨S4x128, .f32⟩
  | .hbm, ⟨11, _⟩ => ⟨S1024, .f32⟩
  | .hbm, ⟨12, _⟩ => ⟨S1024, .f32⟩
  | .hbm, ⟨13, _⟩ => ⟨S_, .i32⟩
  | .hbm, ⟨14, _⟩ => ⟨S_, .f32⟩
  | .hbm, ⟨15, _⟩ => ⟨S3x8x1024, .f32⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S1024x2048, .bf16⟩
  | .hbm, ⟨42, _⟩ => ⟨S1024x1024, .bf16⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S_, .i32⟩
  | .hbm, ⟨52, _⟩ => ⟨S_, .f32⟩
  | .hbm, ⟨53, _⟩ => ⟨S8x256, .f32⟩
  | .hbm, ⟨54, _⟩ => ⟨S1x256, .f32⟩
  | .hbm, ⟨55, _⟩ => ⟨S1x256, .f32⟩
  | .hbm, ⟨56, _⟩ => ⟨S4x128x128, .bf16⟩
  | .hbm, ⟨57, _⟩ => ⟨S128x4, .f32⟩
  | .hbm, ⟨58, _⟩ => ⟨S128x4x64, .f32⟩
  | .hbm, ⟨59, _⟩ => ⟨S128x256, .f32⟩
  | .hbm, ⟨60, _⟩ => ⟨S1x1024, .f32⟩
  | .hbm, ⟨61, _⟩ => ⟨S1x1024, .f32⟩
  | .hbm, ⟨62, _⟩ => ⟨S10240x1024, .f32⟩
  | .hbm, ⟨63, _⟩ => ⟨S8192x128, .f32⟩
  | .hbm, ⟨64, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1024x2048, .bf16⟩
  | .local _ .vmem, ⟨4, _⟩ => ⟨S1024x1024, .bf16⟩
  | .local _ .vmem, ⟨5, _⟩ => ⟨S1x512, .f32⟩
  | .local _ .vmem, ⟨6, _⟩ => ⟨S1x128, .f32⟩
  | .local _ .vmem, ⟨7, _⟩ => ⟨S512x512, .bf16⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S4x128x128, .bf16⟩
  | .local _ .vmem, ⟨12, _⟩ => ⟨S128x256, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x512, .bf16⟩
  | .local _ .vmem, ⟨22, _⟩ => ⟨S4x256x128, .bf16⟩
  | .local _ .vmem, ⟨23, _⟩ => ⟨S4x256x128, .bf16⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .bf16⟩
  | .local _ .vmem, ⟨28, _⟩ => ⟨S256x1024, .bf16⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_1 : Ref sig .tc := ⟨.hbm, 51, rfl⟩
abbrev main_call2_v0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S10240x1024 : Shape := ⟨2, ![10240, 1024]⟩
abbrev S3x6x1024 : Shape := ⟨3, ![3, 6, 1024]⟩
abbrev S1024x2048 : Shape := ⟨2, ![1024, 2048]⟩
abbrev S1024x1024 : Shape := ⟨2, ![1024, 1024]⟩
abbrev S64 : Shape := ⟨1, ![64]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024 : Shape := ⟨1, ![1024]⟩
abbrev S8192x1024 : Shape := ⟨2, ![8192, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x2048 : Shape := ⟨3, ![32, 256, 2048]⟩
abbrev S32x256x512 : Shape := ⟨3, ![32, 256, 512]⟩
abbrev S32x256x128 : Shape := ⟨3, ![32, 256, 128]⟩
abbrev S32x256x256 : Shape := ⟨3, ![32, 256, 256]⟩
abbrev S32x256x2x4x64 : Shape := ⟨5, ![32, 256, 2, 4, 64]⟩
abbrev S32x256x2x4 : Shape := ⟨4, ![32, 256, 2, 4]⟩
abbrev S32x256x2x4x1 : Shape := ⟨5, ![32, 256, 2, 4, 1]⟩
abbrev S1x1x1x1x64 : Shape := ⟨5, ![1, 1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S1x1x1x64 : Shape := ⟨4, ![1, 1, 1, 64]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩
abbrev S32x258x256 : Shape := ⟨3, ![32, 258, 256]⟩
abbrev S1x256 : Shape := ⟨2, ![1, 256]⟩
abbrev S1x1x256 : Shape := ⟨3, ![1, 1, 256]⟩
abbrev S32x2x128x4x64 : Shape := ⟨5, ![32, 2, 128, 4, 64]⟩
abbrev S32x2x128x4 : Shape := ⟨4, ![32, 2, 128, 4]⟩
abbrev S32x2x128x4x1 : Shape := ⟨5, ![32, 2, 128, 4, 1]⟩
abbrev S4x64 : Shape := ⟨2, ![4, 64]⟩
abbrev S1x1x1x4x64 : Shape := ⟨5, ![1, 1, 1, 4, 64]⟩
abbrev S4x32x2x64x128 : Shape := ⟨5, ![4, 32, 2, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x128 : Shape := ⟨2, ![8192, 128]⟩

abbrev nBuf : Space → Nat
  | .hbm => 222
  | .vmem => 0
  | .smem => 0
  | _ => 0

abbrev hbmTy0_0 (i : Nat) : BufTy := match i % 128 with
  | 0 => ⟨S10240x1024, .f32⟩
  | 1 => ⟨S3x6x1024, .f32⟩
  | 2 => ⟨S1024x2048, .f32⟩
  | 3 => ⟨S1024x1024, .f32⟩
  | 4 => ⟨S64, .f32⟩
  | 5 => ⟨S64, .f32⟩
  | 6 => ⟨S3x256, .f32⟩
  | 7 => ⟨S256, .f32⟩
  | 8 => ⟨S256, .f32⟩
  | 9 => ⟨S4x128x128, .f32⟩
  | 10 => ⟨S4x128, .f32⟩
  | 11 => ⟨S1024, .f32⟩
  | 12 => ⟨S1024, .f32⟩
  | 13 => ⟨S8192x1024, .f32⟩
  | 14 => ⟨S32x256x1024, .f32⟩
  | 15 => ⟨S1x1x1024, .f32⟩
  | 16 => ⟨S1024, .f32⟩
  | 17 => ⟨S1x1x1024, .f32⟩
  | 18 => ⟨S1024, .f32⟩
  | 19 => ⟨S1x1x1024, .f32⟩
  | 20 => ⟨S1024, .f32⟩
  | 21 => ⟨S_, .f32⟩
  | 22 => ⟨S32x256, .f32⟩
  | 23 => ⟨S32x256x1, .f32⟩
  | 24 => ⟨S_, .f32⟩
  | 25 => ⟨S32x256x1, .f32⟩
  | 26 => ⟨S32x256x1, .f32⟩
  | 27 => ⟨S32x256x1024, .f32⟩
  | 28 => ⟨S32x256x1024, .f32⟩
  | 29 => ⟨S32x256x1024, .f32⟩
  | 30 => ⟨S_, .f32⟩
  | 31 => ⟨S32x256, .f32⟩
  | 32 => ⟨S32x256x1, .f32⟩
  | 33 => ⟨S_, .f32⟩
  | 34 => ⟨S32x256x1, .f32⟩
  | 35 => ⟨S32x256x1, .f32⟩
  | 36 => ⟨S_, .f32⟩
  | 37 => ⟨S32x256x1, .f32⟩
  | 38 => ⟨S32x256x1, .f32⟩
  | 39 => ⟨S32x256x1, .f32⟩
  | 40 => ⟨S32x256x1024, .f32⟩
  | 41 => ⟨S32x256x1024, .f32⟩
  | 42 => ⟨S_, .f32⟩
  | 43 => ⟨S1024, .f32⟩
  | 44 => ⟨S1024, .f32⟩
  | 45 => ⟨S1x1x1024, .f32⟩
  | 46 => ⟨S32x256x1024, .f32⟩
  | 47 => ⟨S32x256x1024, .f32⟩
  | 48 => ⟨S1x1x1024, .f32⟩
  | 49 => ⟨S32x256x1024, .f32⟩
  | 50 => ⟨S32x256x1024, .f32⟩
  | 51 => ⟨S32x256x2048, .f32⟩
  | 52 => ⟨S32x256x512, .f32⟩
  | 53 => ⟨S32x256x128, .f32⟩
  | 54 => ⟨S32x256x128, .f32⟩
  | 55 => ⟨S32x256x256, .f32⟩
  | 56 => ⟨S32x256x256, .f32⟩
  | 57 => ⟨S32x256x256, .f32⟩
  | 58 => ⟨S32x256x256, .f32⟩
  | 59 => ⟨S32x256x256, .f32⟩
  | 60 => ⟨S32x256x2x4x64, .f32⟩
  | 61 => ⟨S32x256x2x4x64, .f32⟩
  | 62 => ⟨S_, .f32⟩
  | 63 => ⟨S32x256x2x4, .f32⟩
  | 64 => ⟨S32x256x2x4x1, .f32⟩
  | 65 => ⟨S_, .f32⟩
  | 66 => ⟨S32x256x2x4x1, .f32⟩
  | 67 => ⟨S32x256x2x4x1, .f32⟩
  | 68 => ⟨S_, .f32⟩
  | 69 => ⟨S32x256x2x4x1, .f32⟩
  | 70 => ⟨S32x256x2x4x1, .f32⟩
  | 71 => ⟨S32x256x2x4x1, .f32⟩
  | 72 => ⟨S32x256x2x4x64, .f32⟩
  | 73 => ⟨S32x256x2x4x64, .f32⟩
  | 74 => ⟨S1x1x1x1x64, .f32⟩
  | 75 => ⟨S32x256x2x4x64, .f32⟩
  | 76 => ⟨S32x256x2x4x64, .f32⟩
  | 77 => ⟨S32x256x2x64, .f32⟩
  | 78 => ⟨S32x256x2x64, .f32⟩
  | 79 => ⟨S_, .f32⟩
  | 80 => ⟨S32x256x2, .f32⟩
  | 81 => ⟨S32x256x2x1, .f32⟩
  | 82 => ⟨S_, .f32⟩
  | 83 => ⟨S32x256x2x1, .f32⟩
  | 84 => ⟨S32x256x2x1, .f32⟩
  | 85 => ⟨S_, .f32⟩
  | 86 => ⟨S32x256x2x1, .f32⟩
  | 87 => ⟨S32x256x2x1, .f32⟩
  | 88 => ⟨S32x256x2x1, .f32⟩
  | 89 => ⟨S32x256x2x64, .f32⟩
  | 90 => ⟨S32x256x2x64, .f32⟩
  | 91 => ⟨S1x1x1x64, .f32⟩
  | 92 => ⟨S32x256x2x64, .f32⟩
  | 93 => ⟨S32x256x2x64, .f32⟩
  | 94 => ⟨S32x256x2x64, .f32⟩
  | 95 => ⟨S32x2x256x256x4, .f32⟩
  | 96 => ⟨S32x2x4x256x256, .f32⟩
  | 97 => ⟨S_, .f32⟩
  | 98 => ⟨S32x2x4x256x256, .f32⟩
  | 99 => ⟨S32x2x4x256x256, .f32⟩
  | 100 => ⟨S_, .f32⟩
  | 101 => ⟨S32x2x4x256, .f32⟩
  | 102 => ⟨S_, .f32⟩
  | 103 => ⟨S32x2x4x256, .f32⟩
  | 104 => ⟨S32x2x4x256, .f32⟩
  | 105 => ⟨S32x2x4x256x1, .f32⟩
  | 106 => ⟨S32x2x4x256x256, .f32⟩
  | 107 => ⟨S32x2x4x256x256, .f32⟩
  | 108 => ⟨S32x2x4x256x256, .f32⟩
  | 109 => ⟨S_, .f32⟩
  | 110 => ⟨S32x2x4x256, .f32⟩
  | 111 => ⟨S32x2x4x256x1, .f32⟩
  | 112 => ⟨S32x2x4x256x256, .f32⟩
  | 113 => ⟨S32x2x4x256x256, .f32⟩
  | 114 => ⟨S32x2x64x4x256, .f32⟩
  | 115 => ⟨S32x256x2x4x64, .f32⟩
  | 116 => ⟨S32x256x512, .f32⟩
  | 117 => ⟨S32x256x256, .f32⟩
  | 118 => ⟨S_, .i32⟩
  | 119 => ⟨S_, .f32⟩
  | 120 => ⟨S32x258x256, .f32⟩
  | 121 => ⟨S32x256x256, .f32⟩
  | 122 => ⟨S1x256, .f32⟩
  | 123 => ⟨S256, .f32⟩
  | 124 => ⟨S1x1x256, .f32⟩
  | 125 => ⟨S32x256x256, .f32⟩
  | 126 => ⟨S32x256x256, .f32⟩
  | 127 => ⟨S32x256x256, .f32⟩
  | _ => ⟨S10240x1024, .f32⟩

abbrev hbmTy0_1 (i : Nat) : BufTy := match i % 128 with
  | 0 => ⟨S1x256, .f32⟩
  | 1 => ⟨S256, .f32⟩
  | 2 => ⟨S1x1x256, .f32⟩
  | 3 => ⟨S32x256x256, .f32⟩
  | 4 => ⟨S32x256x256, .f32⟩
  | 5 => ⟨S32x256x256, .f32⟩
  | 6 => ⟨S32x256x256, .f32⟩
  | 7 => ⟨S1x256, .f32⟩
  | 8 => ⟨S256, .f32⟩
  | 9 => ⟨S1x1x256, .f32⟩
  | 10 => ⟨S32x256x256, .f32⟩
  | 11 => ⟨S32x256x256, .f32⟩
  | 12 => ⟨S32x256x256, .f32⟩
  | 13 => ⟨S1x1x256, .f32⟩
  | 14 => ⟨S32x256x256, .f32⟩
  | 15 => ⟨S32x256x256, .f32⟩
  | 16 => ⟨S32x256x256, .f32⟩
  | 17 => ⟨S32x2x128x4x64, .f32⟩
  | 18 => ⟨S_, .f32⟩
  | 19 => ⟨S32x2x128x4, .f32⟩
  | 20 => ⟨S32x2x128x4x1, .f32⟩
  | 21 => ⟨S_, .f32⟩
  | 22 => ⟨S32x2x128x4x1, .f32⟩
  | 23 => ⟨S32x2x128x4x1, .f32⟩
  | 24 => ⟨S32x2x128x4x64, .f32⟩
  | 25 => ⟨S32x2x128x4x64, .f32⟩
  | 26 => ⟨S32x2x128x4x64, .f32⟩
  | 27 => ⟨S_, .f32⟩
  | 28 => ⟨S32x2x128x4, .f32⟩
  | 29 => ⟨S32x2x128x4x1, .f32⟩
  | 30 => ⟨S_, .f32⟩
  | 31 => ⟨S32x2x128x4x1, .f32⟩
  | 32 => ⟨S32x2x128x4x1, .f32⟩
  | 33 => ⟨S_, .f32⟩
  | 34 => ⟨S32x2x128x4x1, .f32⟩
  | 35 => ⟨S32x2x128x4x1, .f32⟩
  | 36 => ⟨S32x2x128x4x1, .f32⟩
  | 37 => ⟨S32x2x128x4x64, .f32⟩
  | 38 => ⟨S32x2x128x4x64, .f32⟩
  | 39 => ⟨S4x64, .f32⟩
  | 40 => ⟨S1x1x1x4x64, .f32⟩
  | 41 => ⟨S32x2x128x4x64, .f32⟩
  | 42 => ⟨S32x2x128x4x64, .f32⟩
  | 43 => ⟨S4x32x2x64x128, .f32⟩
  | 44 => ⟨S32x2x128x4x64, .f32⟩
  | 45 => ⟨S128x4, .f32⟩
  | 46 => ⟨S128x4x1, .f32⟩
  | 47 => ⟨S1x1x128x4x1, .f32⟩
  | 48 => ⟨S32x2x128x4x64, .f32⟩
  | 49 => ⟨S32x2x128x4x64, .f32⟩
  | 50 => ⟨S32x256x256, .f32⟩
  | 51 => ⟨S32x256x256, .f32⟩
  | 52 => ⟨S32x256x1024, .f32⟩
  | 53 => ⟨S32x256x1024, .f32⟩
  | 54 => ⟨S_, .f32⟩
  | 55 => ⟨S32x256x1024, .f32⟩
  | 56 => ⟨S32x256x1024, .f32⟩
  | 57 => ⟨S1x1x1024, .f32⟩
  | 58 => ⟨S32x256x1024, .f32⟩
  | 59 => ⟨S32x256x1024, .f32⟩
  | 60 => ⟨S32x256x1024, .f32⟩
  | 61 => ⟨S_, .f32⟩
  | 62 => ⟨S32x256, .f32⟩
  | 63 => ⟨S32x256x1, .f32⟩
  | 64 => ⟨S_, .f32⟩
  | 65 => ⟨S32x256x1, .f32⟩
  | 66 => ⟨S32x256x1, .f32⟩
  | 67 => ⟨S32x256x1024, .f32⟩
  | 68 => ⟨S32x256x1024, .f32⟩
  | 69 => ⟨S32x256x1024, .f32⟩
  | 70 => ⟨S_, .f32⟩
  | 71 => ⟨S32x256, .f32⟩
  | 72 => ⟨S32x256x1, .f32⟩
  | 73 => ⟨S_, .f32⟩
  | 74 => ⟨S32x256x1, .f32⟩
  | 75 => ⟨S32x256x1, .f32⟩
  | 76 => ⟨S_, .f32⟩
  | 77 => ⟨S32x256x1, .f32⟩
  | 78 => ⟨S32x256x1, .f32⟩
  | 79 => ⟨S32x256x1, .f32⟩
  | 80 => ⟨S32x256x1024, .f32⟩
  | 81 => ⟨S32x256x1024, .f32⟩
  | 82 => ⟨S1x1x1024, .f32⟩
  | 83 => ⟨S32x256x1024, .f32⟩
  | 84 => ⟨S32x256x1024, .f32⟩
  | 85 => ⟨S1x1x1024, .f32⟩
  | 86 => ⟨S32x256x1024, .f32⟩
  | 87 => ⟨S32x256x1024, .f32⟩
  | 88 => ⟨S8192x1024, .f32⟩
  | 89 => ⟨S_, .i32⟩
  | 90 => ⟨S_, .f32⟩
  | 91 => ⟨S10240x1024, .f32⟩
  | 92 => ⟨S8192x128, .f32⟩
  | 93 => ⟨S8192x128, .f32⟩
  | _ => ⟨S10240x1024, .f32⟩

abbrev hbmTy (i : Nat) : BufTy := match i / 128 with
  | 0 => hbmTy0_0 i
  | 1 => hbmTy0_1 i
  | _ => ⟨S10240x1024, .f32⟩

abbrev bufTy : (tb : Table) → Fin (tcTables nBuf tb) → BufTy
  | .hbm, ⟨i, _⟩ => hbmTy i
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c : Ref sig .tc := ⟨.hbm, 118, rfl⟩
abbrev main_call0_v0 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_15 : Ref sig .tc := ⟨.hbm, 146, rfl⟩
abbrev main_v115 : Ref sig .tc := ⟨.hbm, 147, rfl⟩
abbrev main_v116 : Ref sig .tc := ⟨.hbm, 148, rfl⟩
abbrev main_cst_16 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_17 : Ref sig .tc := ⟨.hbm, 155, rfl⟩
abbrev main_v122 : Ref sig .tc := ⟨.hbm, 156, rfl⟩
abbrev main_v123 : Ref sig .tc := ⟨.hbm, 157, rfl⟩
abbrev main_cst_18 : Ref sig .tc := ⟨.hbm, 158, rfl⟩
abbrev main_v124 : Ref sig .tc := ⟨.hbm, 159, rfl⟩
abbrev main_v125 : Ref sig .tc := ⟨.hbm, 160, rfl⟩
abbrev main_cst_19 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_20 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_21 : Ref sig .tc := ⟨.hbm, 189, rfl⟩
abbrev main_v152 : Ref sig .tc := ⟨.hbm, 190, rfl⟩
abbrev main_v153 : Ref sig .tc := ⟨.hbm, 191, rfl⟩
abbrev main_cst_22 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_23 : Ref sig .tc := ⟨.hbm, 198, rfl⟩
abbrev main_v159 : Ref sig .tc := ⟨.hbm, 199, rfl⟩
abbrev main_v160 : Ref sig .tc := ⟨.hbm, 200, rfl⟩
abbrev main_cst_24 : Ref sig .tc := ⟨.hbm, 201, rfl⟩
abbrev main_v161 : Ref sig .tc := ⟨.hbm, 202, rfl⟩
abbrev main_v162 : Ref sig .tc := ⟨.hbm, 203, rfl⟩
abbrev main_cst_25 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_c_26 : Ref sig .tc := ⟨.hbm, 217, rfl⟩
abbrev main_call1_v0 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩

abbrev nD : Nat := 1
abbrev τ : Topo := Topo.v7x

variable {F : FTy → Type} [FloatOps F]
-- ==== Kernel4.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Spec.lean ====
/-
  The layer's arithmetic over plain coordinate functions (extended reals): the row standardisation
  both parts use and the feed-forward part's value of one token. The kernel's blocks and the reference's
  arrays are each read into these functions.
-/
module

public import Idealize.ShloMosaic.Lib.Pointwise

@[expose] public section

noncomputable section

namespace Cert.Layer

open Idealize.ShloMosaic

/-- The mean of a row of 1024 values. -/
def mean (v : Fin 1024 → EReal) : EReal := Ideal.div (∑ k, v k) (Ideal.ofBits .f32 0x44800000#32)

/-- A row of 1024 values standardised: less its mean, over the root of its variance plus a small constant. -/
def std (v : Fin 1024 → EReal) (j : Fin 1024) : EReal :=
  (v j - mean v) * Ideal.rsqrt (mean (fun k => (v k - mean v) * (v k - mean v)) + Ideal.ofBits .f32 0x358637BD#32)

/-- The modulated row: standardised, times one plus the scale, plus the shift. -/
def modu (v sc sh : Fin 1024 → EReal) (j : Fin 1024) : EReal := std v j * (1 + sc j) + sh j

/-- The gate of one hidden unit, with the logistic function written as a quotient. -/
def silu (a : EReal) : EReal := Ideal.div a (1 + Ideal.exp (0 - a))

/-- One hidden unit of the feed-forward part: the gated product of two linear forms of the modulated row. -/
def hid (h : Fin 1024 → EReal) (w1 w3 : Fin 1024 → EReal) : EReal :=
  silu (∑ k, h k * w1 k) * ∑ k, h k * w3 k

/-- The feed-forward part's row before its last norm. -/
def ffnY (x : Fin 1024 → EReal) (md : Fin 6 → Fin 1024 → EReal) (w1 w3 : Fin 1024 → Fin 2816 → EReal)
    (w2 : Fin 2816 → Fin 1024 → EReal) (j : Fin 1024) : EReal :=
  Ideal.ofBits .f32 0x3FB504F3#32 * x j
    + md 5 j * ∑ f : Fin 2816, hid (modu x (md 4) (md 3)) (fun k => w1 k f) (fun k => w3 k f) * w2 f j

/-- The feed-forward part's result for one token. -/
def ffn (x : Fin 1024 → EReal) (md : Fin 6 → Fin 1024 → EReal) (w1 w3 : Fin 1024 → Fin 2816 → EReal)
    (w2 : Fin 2816 → Fin 1024 → EReal) (g b : Fin 1024 → EReal) (j : Fin 1024) : EReal :=
  std (ffnY x md w1 w3 w2) j * g j + b j

end Cert.Layer
-- ==== Proof.FfnPay.lean ====
/-
  What one grid point of the feed-forward kernel stores, read at a row and a column of its block.
-/
module

public import proofs.«01_k».proof.Proof.Spec
public import proofs.«01_k».proof.Proof.Gen.Kernel2Ideal.Skeleton

@[expose] public section

set_option maxRecDepth 16384

noncomputable section

open Idealize.ShloMosaic Idealize.ShloMosaic.TcCoe Idealize.SL.Sem

namespace Cert.FfnPay

open Cert.Kernel2Ideal Cert.Kernel2Ideal.Gen Cert.Layer

/-- The modulated block. -/
theorem pay2_at (v0 : FVec Ideal S512x1024 .f32) (v17 v23 : FVec Ideal S1x1x1024 .f32) (r : Fin 512) (j : Fin 1024) :
    k0_pay2 (F := Ideal) v0 v17 v23 (ix2 r j)
      = modu (fun k => v0 (ix2 r k)) (fun k => v17 (ix3 0 0 k)) (fun k => v23 (ix3 0 0 k)) j := by
  pointwise [k0_pay2, modu, std, mean]

/-- The first linear form of a hidden unit. -/
theorem pay4_at (v0 : FVec Ideal S512x1024 .f32) (v17 v23 : FVec Ideal S1x1x1024 .f32) (w : FVec Ideal S1024x1408 .bf16)
    (r : Fin 512) (f : Fin 1408) :
    k0_pay4 (F := Ideal) v0 v17 v23 w (ix2 r f)
      = ∑ k, modu (fun k => v0 (ix2 r k)) (fun k => v17 (ix3 0 0 k)) (fun k => v23 (ix3 0 0 k)) k * w (ix2 k f) := by
  pointwise [k0_pay4, pay2_at]

/-- The second linear form of a hidden unit. -/
theorem pay5_at (v0 : FVec Ideal S512x1024 .f32) (v17 v23 : FVec Ideal S1x1x1024 .f32) (w : FVec Ideal S1024x1408 .bf16)
    (r : Fin 512) (f : Fin 1408) :
    k0_pay5 (F := Ideal) v0 v17 v23 w (ix2 r f)
      = ∑ k, modu (fun k => v0 (ix2 r k)) (fun k => v17 (ix3 0 0 k)) (fun k => v23 (ix3 0 0 k)) k * w (ix2 k f) := by
  pointwise [k0_pay5, pay2_at]

/-- One of the two partial sums over hidden units: the gated products of a half against the second matrix. -/
def part (h : Fin 1024 → EReal) (w1 w3 : Fin 1024 → Fin 1408 → EReal) (w2 : Fin 1408 → Fin 1024 → EReal) (j : Fin 1024) : EReal :=
  ∑ f : Fin 1408, hid h (fun k => w1 k f) (fun k => w3 k f) * w2 f j

/-- The row before the last norm, from the loaded halves of the matrices. -/
theorem pay7_at (v0 : FVec Ideal S512x1024 .f32) (v27 : FVec Ideal S512x1024 .bf16) (h : Fin 512 → Fin 1024 → EReal)
    (hv : ∀ r k, v27 (ix2 r k) = h r k) (v31 v34 v36 : FVec Ideal S512x1408 .f32)
    (w1 w3 : Fin 1024 → Fin 1408 → EReal) (w1' w3' : FVec Ideal S1024x1408 .bf16) (w2 w2' : FVec Ideal S1408x1024 .bf16)
    (g : FVec Ideal S1x1x1024 .f32)
    (h31 : ∀ r f, v31 (ix2 r f) = ∑ k, h r k * w1 k f) (h34 : ∀ r f, v34 (ix2 r f) = ∑ k, h r k * w3 k f)
    (h36 : ∀ r f, v36 (ix2 r f) = 0 - v31 (ix2 r f))
    (r : Fin 512) (j : Fin 1024) :
    k0_pay7 (F := Ideal) v0 v27 (k0_pay3 (F := Ideal)) v31 v34 v36 w2 w1' w3' w2' g (ix2 r j)
      = Ideal.ofBits .f32 0x3FB504F3#32 * v0 (ix2 r j)
        + g (ix3 0 0 j) * (part (h r) w1 w3 (fun f k => w2 (ix2 f k)) j
          + part (h r) (fun k f => w1' (ix2 k f)) (fun k f => w3' (ix2 k f)) (fun f k => w2' (ix2 f k)) j) := by
  pointwise [k0_pay7, k0_pay3, part, hid, silu, hv, h31, h34, h36]

/-- What is stored: the standardised row, scaled and shifted. -/
theorem pay1_at (v0 : FVec Ideal S512x1024 .f32) (v27 : FVec Ideal S512x1024 .bf16) (v28 : FVec Ideal S512x1024 .f32)
    (v31 v34 v36 : FVec Ideal S512x1408 .f32)
    (w2 : FVec Ideal S1408x1024 .bf16) (w1' w3' : FVec Ideal S1024x1408 .bf16) (w2' : FVec Ideal S1408x1024 .bf16)
    (m : FVec Ideal S1x1x1024 .f32) (g b : FVec Ideal S1x1024 .f32) (y : Fin 512 → Fin 1024 → EReal)
    (hy : ∀ r j, k0_pay7 (F := Ideal) v0 v27 v28 v31 v34 v36 w2 w1' w3' w2' m (ix2 r j) = y r j)
    (r : Fin 512) (j : Fin 1024) :
    k0_pay1 (F := Ideal) (k0_pay7 v0 v27 v28 v31 v34 v36 w2 w1' w3' w2' m) (k0_pay8 v0 v27 v28 v31 v34 v36 w2 w1' w3' w2' m) g b (ix2 r j)
      = std (y r) j * g (ix2 0 j) + b (ix2 0 j) := by
  pointwise [k0_pay1, k0_pay8, hy, std, mean]

end Cert.FfnPay
-- ==== Proof.SpecFacts.lean ====
/-
  Facts about the layer's arithmetic on the extended reals.
-/
module

public import proofs.«01_k».proof.Proof.Spec

@[expose] public section

noncomputable section

namespace Cert.Layer

open Idealize.ShloMosaic

/-- The exponential is never negative. -/
theorem exp_nonneg (a : EReal) : 0 ≤ Ideal.exp a := by
  induction a with
  | bot => exact le_of_eq rfl
  | top => exact le_top
  | coe r => exact EReal.coe_nonneg.mpr (Real.exp_nonneg r)

/-- One plus an exponential is positive. -/
theorem one_add_exp_pos (a : EReal) : 0 < 1 + Ideal.exp a :=
  lt_of_lt_of_le zero_lt_one (le_add_of_nonneg_right (exp_nonneg a))

/-- The gate as a product with the logistic function. -/
theorem silu_eq (a : EReal) : silu a = a * Ideal.div 1 (1 + Ideal.exp (-a)) := by
  have h : (1 + Ideal.exp (-a)) ≠ 0 := (one_add_exp_pos (-a)).ne'
  unfold silu Ideal.div
  rw [zero_sub, if_neg h, if_neg h, one_mul]

end Cert.Layer
-- ==== Proof.FfnRef.lean ====
/-
  The feed-forward reference read at a row and a column.
-/
module

public import proofs.«01_k».proof.Proof.SpecFacts
public import proofs.«01_k».proof.Proof.Gen.Reference2Ideal.Read

@[expose] public section

set_option maxRecDepth 16384

noncomputable section

open Idealize.ShloMosaic Idealize.ShloMosaic.TcCoe Idealize.SL.Sem

namespace Cert.FfnRef

open Cert.Reference2Ideal Cert.Reference2Ideal.Read Cert.Layer

/-- The group of a token: the context's 8192 tokens, then 1024 to each of the two sequences. -/
def grp (r : Fin 10240) : Fin 3 := if r.val < 8192 then 0 else if r.val < 9216 then 1 else 2

variable (x : FVec Ideal S10240x1024 .f32) (md : FVec Ideal S3x6x1024 .f32) (w1 w3 : FVec Ideal S1024x2816 .f32)
  (w2 : FVec Ideal S2816x1024 .f32) (g b : FVec Ideal S1024 .f32)

/-- The modulation of a token is its group's. -/
theorem mod_at (r : Fin 10240) (q : Fin 6) (k : Fin 1024) :
    val_main_v12 (F := Ideal) md (ix3 r q k) = md (ix3 (grp r) q k) := by
  pointwise [val_main_v12, val_main_v11, val_main_v10, val_main_v9, val_main_v8, val_main_v7, val_main_v6, val_main_v5, val_main_v4,
    val_main_v3, val_main_v2, val_main_v1, val_main_v0]
  unfold grp
  by_cases h : r.val < 8192
  · rw [dif_pos h, if_pos h]
  · by_cases h' : r.val < 9216
    · rw [dif_neg h, dif_pos (by omega), if_neg h, if_pos h']
    · rw [dif_neg h, dif_neg (by omega), if_neg h, if_neg h']

/-- The modulated row. -/
theorem v38_at (r : Fin 10240) (k : Fin 1024) :
    val_main_v38 (F := Ideal) x md (ix2 r k)
      = modu (fun k => x (ix2 r k)) (fun k => md (ix3 (grp r) 4 k)) (fun k => md (ix3 (grp r) 3 k)) k := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v16, val_main_v15, val_main_v14, val_main_v13, val_main_cst, val_main_cst_0, val_main_cst_1,
    val_main_cst_2, val_main_cst_3, val_main_cst_4, modu, std, mean, mod_at]

/-- One hidden unit of a token. -/
theorem v42_at (r : Fin 10240) (f : Fin 2816) :
    val_main_v42 (F := Ideal) x md w1 w3 (ix2 r f)
      = hid (modu (fun k => x (ix2 r k)) (fun k => md (ix3 (grp r) 4 k)) (fun k => md (ix3 (grp r) 3 k)))
          (fun k => w1 (ix2 k f)) (fun k => w3 (ix2 k f)) := by
  rw [hid, silu_eq]
  pointwise [val_main_v42, val_main_v41, val_main_v40, val_main_v39, val_main_call0_v5, val_main_call0_v4, val_main_call0_v3,
    val_main_call0_v2, val_main_call0_v1, val_main_call0_v0, val_main_call0_cst, val_main_call0_cst_0, v38_at]

/-- The row before the last norm. -/
theorem v47_at (r : Fin 10240) (j : Fin 1024) :
    val_main_v47 (F := Ideal) x md w1 w3 w2 (ix2 r j)
      = ffnY (fun k => x (ix2 r k)) (fun q k => md (ix3 (grp r) q k)) (fun k f => w1 (ix2 k f)) (fun k f => w3 (ix2 k f))
          (fun f k => w2 (ix2 f k)) j := by
  pointwise [val_main_v47, val_main_v46, val_main_v45, val_main_v44, val_main_v43, val_main_v18, val_main_v17, val_main_cst_5,
    ffnY, v42_at, mod_at]

/-- The reference's result. -/
theorem v69_at (r : Fin 10240) (j : Fin 1024) :
    val_main_v69 (F := Ideal) x md w1 w3 w2 g b (ix2 r j)
      = ffn (fun k => x (ix2 r k)) (fun q k => md (ix3 (grp r) q k)) (fun k f => w1 (ix2 k f)) (fun k f => w3 (ix2 k f))
          (fun f k => w2 (ix2 f k)) (fun k => g (ix1 k)) (fun k => b (ix1 k)) j := by
  pointwise [val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52,
    val_main_v51, val_main_v50, val_main_v49, val_main_v48, val_main_cst_6, val_main_cst_7, val_main_cst_8, val_main_cst_9,
    val_main_cst_10, ffn, std, mean, v47_at]

end Cert.FfnRef
-- ==== Proof.FfnBlock.lean ====
/-
  The feed-forward kernel's result array, index by index, from its argument arrays.
-/
module

public import proofs.«01_k».proof.Proof.FfnPay
public import proofs.«01_k».proof.Proof.FfnRef
public import proofs.«01_k».proof.Proof.Gen.Kernel2Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBlock

open Cert.Kernel2Ideal Cert.Kernel2Ideal.Gen Cert.Layer Cert.FfnPay

variable (m : (ℓ : Loc nD τ sig) → Buf (Elt Ideal) ℓ)

/-- The group of a grid point: the first sixteen tiles belong to the context, then two tiles to each sequence. -/
def tgrp (t : ℕ) : ℕ := if t < 16 then 0 else 1 + (t - 16) / 2

/-- Where each window's block lies at a grid point. -/
theorem idx : ∀ t : Fin cfg0.N, win0_0.index t = ![t.val, 0] ∧ win0_1.index t = ![tgrp t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ t.val < 20 ∧ tgrp t.val < 3 :=
  (by decide +kernel : ∀ t : Fin grid0.N, _)

/-- The modulation table as the kernel is given it: rows of zeros added below the six. -/
theorem V0_at (c : Dev nD) (a : Fin 3) (q : Fin 6) (k : Fin 1024) :
    (show FVec Ideal S3x8x1024 .f32 from V m c main_v0) (ix3 a ⟨q.val, by omega⟩ k)
      = (show FVec Ideal S3x6x1024 .f32 from m ((c : Thread nD τ).loc main_arg1)) (ix3 a q k) := by
  simp only [V, hostOps0, hostOps0_1, hostOps0_2, List.flatten_cons, List.flatten_nil, List.append_nil, List.cons_append,
    List.nil_append]
  entry_read
  refine Eq.trans (b := pad S3x8x1024 ![0, 0, 0] ![0, 2, 0] ![0, 0, 0]
    (show FVec Ideal S3x6x1024 .f32 from m ((c : Thread nD τ).loc main_arg1)) (sitofp (F := Ideal) .f32 (constantI S_ 32 0#32))
    pads_S3x6x1024_S3x8x1024_000_020_000 h_S_ (ix3 a ⟨q.val, by omega⟩ k)) rfl ?_
  pointwise

/-- The first matrix as the kernel is given it. -/
theorem V1_at (c : Dev nD) (a : Fin 1024) (b : Fin 2816) :
    (show FVec Ideal S1024x2816 .bf16 from V m c main_v1) (ix2 a b)
      = (show FVec Ideal S1024x2816 .f32 from m ((c : Thread nD τ).loc main_arg2)) (ix2 a b) := by
  simp only [V, hostOps0, hostOps0_1, hostOps0_2, List.flatten_cons, List.flatten_nil, List.append_nil, List.cons_append,
    List.nil_append]
  entry_read
  pointwise

/-- The gating matrix as the kernel is given it. -/
theorem V2_at (c : Dev nD) (a : Fin 1024) (b : Fin 2816) :
    (show FVec Ideal S1024x2816 .bf16 from V m c main_v2) (ix2 a b)
      = (show FVec Ideal S1024x2816 .f32 from m ((c : Thread nD τ).loc main_arg3)) (ix2 a b) := by
  simp only [V, hostOps0, hostOps0_1, hostOps0_2, List.flatten_cons, List.flatten_nil, List.append_nil, List.cons_append,
    List.nil_append]
  entry_read
  pointwise

/-- The second matrix as the kernel is given it. -/
theorem V3_at (c : Dev nD) (a : Fin 2816) (b : Fin 1024) :
    (show FVec Ideal S2816x1024 .bf16 from V m c main_v3) (ix2 a b)
      = (show FVec Ideal S2816x1024 .f32 from m ((c : Thread nD τ).loc main_arg4)) (ix2 a b) := by
  simp only [V, hostOps0, hostOps0_1, hostOps0_2, List.flatten_cons, List.flatten_nil, List.append_nil, List.cons_append,
    List.nil_append]
  entry_read
  pointwise

/-- The last norm's scale as the kernel is given it. -/
theorem V4_at (c : Dev nD) (b : Fin 1024) :
    (show FVec Ideal S1x1024 .f32 from V m c main_v4) (ix2 0 b)
      = (show FVec Ideal S1024 .f32 from m ((c : Thread nD τ).loc main_arg5)) (ix1 b) := by
  simp only [V, hostOps0, hostOps0_1, hostOps0_2, List.flatten_cons, List.flatten_nil, List.append_nil, List.cons_append,
    List.nil_append]
  entry_read
  pointwise

/-- The last norm's shift as the kernel is given it. -/
theorem V5_at (c : Dev nD) (b : Fin 1024) :
    (show FVec Ideal S1x1024 .f32 from V m c main_v5) (ix2 0 b)
      = (show FVec Ideal S1024 .f32 from m ((c : Thread nD τ).loc main_arg6)) (ix1 b) := by
  simp only [V, hostOps0, hostOps0_1, hostOps0_2, List.flatten_cons, List.flatten_nil, List.append_nil, List.cons_append,
    List.nil_append]
  entry_read
  pointwise

/-! ## The blocks at a grid point, at coordinates -/

theorem blk0_at (c : Dev nD) (t : Fin cfg0.N) (r : Fin 512) (k : Fin 1024) (h : t.val * 512 + r.val < 10240) :
    (show FVec Ideal S512x1024 .f32 from iblk m c 0 t) (ix2 r k)
      = (show FVec Ideal S10240x1024 .f32 from m ((c : Thread nD τ).loc main_arg0)) (ix2 ⟨t.val * 512 + r.val, h⟩ k) := by
  blk_ext [iblk, V, idx t]

theorem blk1_at (c : Dev nD) (t : Fin cfg0.N) (q : Fin 6) (k : Fin 1024) (h : tgrp t.val < 3) :
    (show FVec Ideal S1x8x1024 .f32 from iblk m c 1 t) (ix3 0 ⟨q.val, by omega⟩ k)
      = (show FVec Ideal S3x6x1024 .f32 from m ((c : Thread nD τ).loc main_arg1)) (ix3 ⟨tgrp t.val, h⟩ q k) := by
  refine Eq.trans ?_ (V0_at m c ⟨tgrp t.val, h⟩ q k)
  blk_ext [iblk, idx t]

theorem blk2_at (c : Dev nD) (t : Fin cfg0.N) (a : Fin 1024) (b : Fin 2816) :
    (show FVec Ideal S1024x2816 .bf16 from iblk m c 2 t) (ix2 a b)
      = (show FVec Ideal S1024x2816 .f32 from m ((c : Thread nD τ).loc main_arg2)) (ix2 a b) := by
  refine Eq.trans ?_ (V1_at m c a b)
  blk_ext [iblk, idx t]

theorem blk3_at (c : Dev nD) (t : Fin cfg0.N) (a : Fin 1024) (b : Fin 2816) :
    (show FVec Ideal S1024x2816 .bf16 from iblk m c 3 t) (ix2 a b)
      = (show FVec Ideal S1024x2816 .f32 from m ((c : Thread nD τ).loc main_arg3)) (ix2 a b) := by
  refine Eq.trans ?_ (V2_at m c a b)
  blk_ext [iblk, idx t]

theorem blk4_at (c : Dev nD) (t : Fin cfg0.N) (a : Fin 2816) (b : Fin 1024) :
    (show FVec Ideal S2816x1024 .bf16 from iblk m c 4 t) (ix2 a b)
      = (show FVec Ideal S2816x1024 .f32 from m ((c : Thread nD τ).loc main_arg4)) (ix2 a b) := by
  refine Eq.trans ?_ (V3_at m c a b)
  blk_ext [iblk, idx t]

theorem blk5_at (c : Dev nD) (t : Fin cfg0.N) (b : Fin 1024) :
    (show FVec Ideal S1x1024 .f32 from iblk m c 5 t) (ix2 0 b)
      = (show FVec Ideal S1024 .f32 from m ((c : Thread nD τ).loc main_arg5)) (ix1 b) := by
  refine Eq.trans ?_ (V4_at m c b)
  blk_ext [iblk, idx t]

theorem blk6_at (c : Dev nD) (t : Fin cfg0.N) (b : Fin 1024) :
    (show FVec Ideal S1x1024 .f32 from iblk m c 6 t) (ix2 0 b)
      = (show FVec Ideal S1024 .f32 from m ((c : Thread nD τ).loc main_arg6)) (ix1 b) := by
  refine Eq.trans ?_ (V5_at m c b)
  blk_ext [iblk, idx t]

/-- What a grid point leaves in its block of the result, from its input blocks. -/
theorem out_at (x0 : FVec Ideal S512x1024 .f32) (x1 : FVec Ideal S1x8x1024 .f32) (x2 x3 : FVec Ideal S1024x2816 .bf16)
    (x4 : FVec Ideal S2816x1024 .bf16) (x5 x6 : FVec Ideal S1x1024 .f32) (r : Fin 512) (j : Fin 1024) :
    out0_7 (F := Ideal) x0 x1 x2 x3 x4 x5 x6 (ix2 r j)
      = ffn (fun k => x0 (ix2 r k)) (fun q k => x1 (ix3 0 ⟨q.val, by omega⟩ k)) (fun k f => x2 (ix2 k f)) (fun k f => x3 (ix2 k f))
          (fun f k => x4 (ix2 f k)) (fun k => x5 (ix2 0 k)) (fun k => x6 (ix2 0 k)) j := by
  have hz : (![0, 0] : Fin 2 → Nat) = fun _ => 0 := funext fun a => by fin_cases a <;> rfl
  unfold_out out0_7
  rw [View.canon_unit_zero hz]
  refine (pay1_at _ _ _ _ _ _ _ _ _ _ _ _ _ (fun r => ffnY (fun k => x0 (ix2 r k)) (fun q k => x1 (ix3 0 ⟨q.val, by omega⟩ k)) (fun k f => x2 (ix2 k f)) (fun k f => x3 (ix2 k f))
          (fun f k => x4 (ix2 f k))) (fun r j => ?_) r j).trans ?_
  rotate_left
  · unfold ffn; pointwise
  refine (pay7_at _ _ (fun r => modu (fun k => x0 (ix2 r k)) (fun k => x1 (ix3 0 4 k)) (fun k => x1 (ix3 0 3 k))) (fun r k => ?_) _ _ _
    (fun k f => x2 (ix2 k ⟨f.val, by omega⟩)) (fun k f => x3 (ix2 k ⟨f.val, by omega⟩)) _ _ _ _ _ (fun r f => ?_) (fun r f => ?_) (fun r f => ?_) r j).trans ?_
  · rw [pay2_at]; pointwise
  · rw [pay4_at]; pointwise
  · rw [pay5_at]; pointwise
  · pointwise [k0_pay6]
  · unfold ffnY part
    rw [Fin.sum_univ_two_halves 1408 1408 rfl]
    pointwise

/-- The result array as the reference's term over the argument arrays. -/
abbrev REF (x : FVec Ideal S10240x1024 .f32) (md : FVec Ideal S3x6x1024 .f32) (w1 w3 : FVec Ideal S1024x2816 .f32)
    (w2 : FVec Ideal S2816x1024 .f32) (g b : FVec Ideal S1024 .f32) : FVec Ideal S10240x1024 .f32 :=
  Cert.Reference2Ideal.Read.val_main_v69 (F := Ideal) x md w1 w3 w2 g b

/-- A token's group is its tile's. -/
theorem grp_eq (t : Fin cfg0.N) (r : Fin 512) (h : t.val * 512 + r.val < 10240) (h' : tgrp t.val < 3) :
    FfnRef.grp ⟨t.val * 512 + r.val, h⟩ = ⟨tgrp t.val, h'⟩ := by
  have ht := (idx t).2.2.2.2.2.2.2.2.1
  apply Fin.ext
  unfold FfnRef.grp tgrp
  dsimp only
  split_ifs <;> simp <;> omega

/-- What a grid point leaves at an index of its block is the reference's value at the array index it sits at. -/
theorem point (c : Dev nD) (t : Fin cfg0.N) (r : Fin 512) (j : Fin 1024) (h : t.val * 512 + r.val < 10240) :
    out0_7 (F := Ideal) (iblk m c 0 t) (iblk m c 1 t) (iblk m c 2 t) (iblk m c 3 t) (iblk m c 4 t) (iblk m c 5 t) (iblk m c 6 t) (ix2 r j)
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 ⟨t.val * 512 + r.val, h⟩ j) := by
  refine (out_at _ _ _ _ _ _ _ r j).trans (Eq.trans ?_ (FfnRef.v69_at _ _ _ _ _ _ _ _ j).symm)
  have h' := (idx t).2.2.2.2.2.2.2.2.2
  rw [grp_eq t r h h']
  congr 1
  · exact funext fun k => blk0_at m c t r k h
  · exact funext fun q => funext fun k => blk1_at m c t q k h'
  · exact funext fun a => funext fun b => blk2_at m c t a b
  · exact funext fun a => funext fun b => blk3_at m c t a b
  · exact funext fun a => funext fun b => blk4_at m c t a b
  · exact funext fun b => blk5_at m c t b
  · exact funext fun b => blk6_at m c t b

/-- The kernel's result array is the reference's. -/
theorem final (c : Dev nD) : (dats m 0 c).arrAt 7 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  obtain ⟨r, j, rfl⟩ : ∃ (r : Fin 512) (j : Fin 1024), y = ix2 r j := ⟨y 0, y 1, eq_ix2 y⟩
  have h : t.val * 512 + r.val < 10240 := by have := (idx t).2.2.2.2.2.2.2.2.1; omega
  refine (point m c t r j h).trans (congrArg _ ?_)
  blk_ext [idx t]

end Cert.FfnBlock
-- ==== Proof.FfnClaim.lean ====
/-
  The feed-forward kernel computes its reference.
-/
module

public import proofs.«01_k».proof.Defs
public import proofs.«01_k».proof.Proof.FfnBlock
public import proofs.«01_k».proof.Proof.Gen.Reference2Ideal.Run

@[expose] public section

set_option maxRecDepth 16384

noncomputable section

open Idealize.ShloMosaic Idealize.ShloMosaic.TcCoe Idealize.SL.Sem

namespace Cert.FfnClaim

/-- From memories agreeing on the arguments, the kernel and the reference end with the same result array. -/
theorem algebraic [Cert.Kernel2Ideal.Facts] [Cert.Reference2Ideal.Facts] : Cert.algebraic_Kernel2Ideal_Reference2Ideal := by
  pair_intro
  · run_from Cert.Kernel2Ideal.Value.run_blocks m g
  · run_from Cert.Reference2Ideal.Value.run m' g'
    obtain ⟨h0, h1, h2, h3, h4, h5, h6⟩ := hagree c
    rw [Cert.Reference2Ideal.Read.val_main_v69_eq, h0, h1, h2, h3, h4, h5, h6]
    exact (Cert.FfnBlock.final m c).symm

end Cert.FfnClaim
-- ==== Proof.MixSpec.lean ====
/-
  The token mixer's arithmetic over plain coordinate functions (extended reals): attention over grouped
  heads, the gated convolution, the spatial gating unit, and the residual row. A sequence has 256 tokens; its
  projected rows are a function of the token and of one of 2048 columns.
-/
module

public import proofs.«01_k».proof.Proof.Spec

@[expose] public section

noncomputable section

namespace Cert.Mix

open Idealize.ShloMosaic Cert.Layer

/-- The mean of the 64 values of a head. -/
def m64 (f : Fin 64 → EReal) : EReal := Ideal.div (∑ e, f e) (Ideal.ofBits .f32 0x42800000#32)

/-- A head's 64 values over their root mean square, scaled. -/
def rms64 (x : Fin 64 → EReal) (g : EReal) (d : Fin 64) : EReal :=
  x d * Ideal.rsqrt (m64 (fun e => x e * x e) + Ideal.ofBits .f32 0x358637BD#32) * g

/-- A head's 64 values standardised. -/
def std64 (x : Fin 64 → EReal) (d : Fin 64) : EReal :=
  (x d - m64 x) * Ideal.rsqrt (m64 (fun e => (x e - m64 x) * (x e - m64 x)) + Ideal.ofBits .f32 0x358637BD#32)

/-- The projected rows of a sequence: each token's modulated row times the input matrix. -/
def proj (X : Fin 256 → Fin 1024 → EReal) (sc sh : Fin 1024 → EReal) (W : Fin 1024 → Fin 2048 → EReal)
    (r : Fin 256) (n : Fin 2048) : EReal := ∑ k, modu (X r) sc sh k * W k n

/-- The query of a token in head `h` of group `g`. -/
def qh (Z : Fin 256 → Fin 2048 → EReal) (gq : Fin 64 → EReal) (r : Fin 256) (g : Fin 2) (h : Fin 4) (d : Fin 64) : EReal :=
  rms64 (fun e => Z r ⟨(g.val * 4 + h.val) * 64 + e.val, by omega⟩) (gq d) d

/-- The key of a token in group `g`. -/
def kh (Z : Fin 256 → Fin 2048 → EReal) (gk : Fin 64 → EReal) (r : Fin 256) (g : Fin 2) (d : Fin 64) : EReal :=
  rms64 (fun e => Z r ⟨512 + (g.val * 64 + e.val), by omega⟩) (gk d) d

/-- The value of a token in group `g`. -/
def vh (Z : Fin 256 → Fin 2048 → EReal) (r : Fin 256) (g : Fin 2) (d : Fin 64) : EReal :=
  Z r ⟨640 + (g.val * 64 + d.val), by omega⟩

/-- The scaled product of a query with the key of token `s`. -/
def score (q : Fin 64 → EReal) (k : Fin 256 → Fin 64 → EReal) (s : Fin 256) : EReal :=
  (∑ d, k s d * q d) * Ideal.ofBits .f32 0x3E000000#32

/-- The greatest score of a row. -/
def top (s : Fin 256 → EReal) : EReal := Finset.univ.fold max (Ideal.ofBits .f32 0xFF800000#32) s

/-- The unnormalised weight of a token: the exponential of its score less the greatest. -/
def wt (s : Fin 256 → EReal) (k : Fin 256) : EReal := Ideal.exp (s k - top s)

/-- The weighted mean of the values, the weights a softmax of the scores. -/
def att (s : Fin 256 → EReal) (v : Fin 256 → EReal) : EReal := ∑ k, v k * Ideal.div (wt s k) (∑ l, wt s l)

/-- Attention's result for a token in head `h` of group `g`. -/
def attH (Z : Fin 256 → Fin 2048 → EReal) (gq gk : Fin 64 → EReal) (r : Fin 256) (g : Fin 2) (h : Fin 4) (d : Fin 64) : EReal :=
  att (score (qh Z gq r g h) (fun s => kh Z gk s g)) (fun s => vh Z s g d)

/-- The convolution's input. -/
def cin (Z : Fin 256 → Fin 2048 → EReal) (r : Fin 256) (n : Fin 256) : EReal :=
  Z r ⟨1280 + n.val, by omega⟩ * Z r ⟨768 + n.val, by omega⟩

/-- The gated convolution over three neighbouring tokens, zero outside the sequence. -/
def conv (Z : Fin 256 → Fin 2048 → EReal) (w : Fin 3 → Fin 256 → EReal) (b : Fin 256 → EReal) (r : Fin 256) (n : Fin 256) : EReal :=
  Z r ⟨1024 + n.val, by omega⟩
    * ((if h : 0 < r.val then cin Z ⟨r.val - 1, by omega⟩ n else 0) * w 0 n + cin Z r n * w 1 n
        + (if h : r.val < 255 then cin Z ⟨r.val + 1, by omega⟩ n else 0) * w 2 n + b n)

/-- The normalised gating values of a token in a chunk. -/
def svn (Z : Fin 256 → Fin 2048 → EReal) (g : Fin 256 → EReal) (c : Fin 2) (q : Fin 128) (h : Fin 4) (e : Fin 64) : EReal :=
  std64 (fun e => Z ⟨c.val * 128 + q.val, by omega⟩ ⟨1792 + (h.val * 64 + e.val), by omega⟩) e * g ⟨h.val * 64 + e.val, by omega⟩

/-- The spatial gating unit within a chunk of 128 tokens. -/
def sgu (Z : Fin 256 → Fin 2048 → EReal) (g : Fin 256 → EReal) (w : Fin 4 → Fin 128 → Fin 128 → EReal) (b : Fin 4 → Fin 128 → EReal)
    (c : Fin 2) (p : Fin 128) (h : Fin 4) (e : Fin 64) : EReal :=
  Z ⟨c.val * 128 + p.val, by omega⟩ ⟨1536 + (h.val * 64 + e.val), by omega⟩ * (∑ q, svn Z g c q h e * w h p q + b h p)

/-- The three mixers side by side. -/
def mixv (Z : Fin 256 → Fin 2048 → EReal) (gq gk : Fin 64 → EReal) (cw : Fin 3 → Fin 256 → EReal) (cb : Fin 256 → EReal)
    (sg : Fin 256 → EReal) (sw : Fin 4 → Fin 128 → Fin 128 → EReal) (sb : Fin 4 → Fin 128 → EReal) (r : Fin 256) (n : Fin 1024) : EReal :=
  if h : n.val < 512 then attH Z gq gk r ⟨n.val / 256, by omega⟩ ⟨n.val / 64 % 4, by omega⟩ ⟨n.val % 64, by omega⟩
  else if h' : n.val < 768 then conv Z cw cb r ⟨n.val - 512, by omega⟩
  else sgu Z sg sw sb ⟨r.val / 128, by omega⟩ ⟨r.val % 128, by omega⟩ ⟨(n.val - 768) / 64, by omega⟩ ⟨(n.val - 768) % 64, by omega⟩

/-- The residual row before its norm: the token's row scaled, plus the gate times the mixed row's projection. -/
def res (x : Fin 1024 → EReal) (gt : Fin 1024 → EReal) (M : Fin 1024 → EReal) (wo : Fin 1024 → Fin 1024 → EReal) (j : Fin 1024) : EReal :=
  Ideal.ofBits .f32 0x3FB504F3#32 * x j + gt j * ∑ k, M k * wo k j

/-- The mixer's result for one token. -/
def out (x : Fin 1024 → EReal) (gt : Fin 1024 → EReal) (M : Fin 1024 → EReal) (wo : Fin 1024 → Fin 1024 → EReal)
    (g b : Fin 1024 → EReal) (j : Fin 1024) : EReal := std (res x gt M wo) j * g j + b j

end Cert.Mix
-- ==== Proof.MixFin.lean ====
/-
  Facts about finite extended reals that the mixer's two forms meet by: what is finite, the values of the
  constants, sums over one head, and the softmax quotient.
-/
module

public import proofs.«01_k».proof.Proof.MixSpec

@[expose] public section

set_option maxRecDepth 16384

noncomputable section

namespace Cert.Mix

open Idealize.ShloMosaic Cert.Layer

/-- A finite extended real. -/
def Rl (x : EReal) : Prop := ∃ a : ℝ, x = a

theorem Rl.coe (a : ℝ) : Rl a := ⟨a, rfl⟩
theorem Rl.zero : Rl 0 := ⟨0, rfl⟩
theorem Rl.one : Rl 1 := ⟨1, rfl⟩

theorem Rl.add {x y : EReal} : Rl x → Rl y → Rl (x + y) := by
  rintro ⟨a, rfl⟩ ⟨b, rfl⟩; exact ⟨a + b, (EReal.coe_add a b).symm⟩

theorem Rl.sub {x y : EReal} : Rl x → Rl y → Rl (x - y) := by
  rintro ⟨a, rfl⟩ ⟨b, rfl⟩; exact ⟨a - b, (EReal.coe_sub a b).symm⟩

theorem Rl.mul {x y : EReal} : Rl x → Rl y → Rl (x * y) := by
  rintro ⟨a, rfl⟩ ⟨b, rfl⟩; exact ⟨a * b, (EReal.coe_mul a b).symm⟩

/-- A sum of finite terms is the sum of their values. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Rl.sum {ι : Type} {s : Finset ι} {f : ι → EReal} (h : ∀ i, Rl (f i)) : Rl (∑ i ∈ s, f i) := by
  choose g hg using h
  exact ⟨∑ i ∈ s, g i, by rw [← sum_coe]; exact Finset.sum_congr rfl fun i _ => hg i⟩

theorem Rl.sub_self {x : EReal} : Rl x → x - x = 0 := by
  rintro ⟨a, rfl⟩; rw [← EReal.coe_sub, _root_.sub_self]; rfl

theorem Rl.exp {x : EReal} : Rl x → Rl (Ideal.exp x) := by
  rintro ⟨a, rfl⟩; exact ⟨_, Ideal.exp_coe a⟩

theorem Rl.rsqrt {a : ℝ} (h : 0 < a) : Rl (Ideal.rsqrt a) := by
  rw [Ideal.rsqrt_coe, if_neg (not_lt.2 h.le), if_neg h.ne']; exact ⟨_, rfl⟩

/-! ## The constants -/

theorem c64 : Ideal.ofBits .f32 0x42800000#32 = ((64 : ℝ) : EReal) := by
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

theorem i64 : Ideal.ofBits .f32 0x3C800000#32 = ((1 / 64 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem bot : Ideal.ofBits .f32 0xFF800000#32 = ⊥ := by
  simp [Ideal.ofBits, Ideal.ieee]

theorem eps : ∃ e : ℝ, 0 < e ∧ Ideal.ofBits .f32 0x358637BD#32 = (e : EReal) := by
  refine ⟨_, ?_, by simp [Ideal.ofBits, Ideal.ieee, -EReal.coe_mul]; rfl⟩
  norm_num

/-- Dividing by 64 is multiplying by its reciprocal. -/
theorem div64 (x : EReal) : Ideal.div x (Ideal.ofBits .f32 0x42800000#32) = x * Ideal.ofBits .f32 0x3C800000#32 := by
  rw [c64, i64, Ideal.div_coe (by norm_num : (64 : ℝ) ≠ 0)]

theorem m64_mul (f : Fin 64 → EReal) : (∑ e, f e) * Ideal.ofBits .f32 0x3C800000#32 = m64 f := (div64 _).symm

/-! ## Norms of finite rows are finite -/

theorem Rl.m64 {f : Fin 64 → EReal} (h : ∀ e, Rl (f e)) : Rl (m64 f) := by
  rw [← m64_mul, i64]; exact (Rl.sum h).mul (Rl.coe _)

theorem Rl.mean {f : Fin 1024 → EReal} (h : ∀ e, Rl (f e)) : Rl (mean f) := by
  unfold Layer.mean; rw [c1024, Ideal.div_coe (by norm_num : (1024 : ℝ) ≠ 0)]; exact (Rl.sum h).mul (Rl.coe _)

/-- The root of a mean square plus the small constant is finite: the mean square is not negative. -/
theorem Rl.rsqrt_ms {n : ℕ} {f : Fin n → EReal} (h : ∀ e, Rl (f e)) {c : ℝ} (hc : 0 < c) :
    Rl (Ideal.rsqrt ((∑ e, f e * f e) * (c : EReal) + Ideal.ofBits .f32 0x358637BD#32)) := by
  choose g hg using h
  obtain ⟨ε, he, heq⟩ := eps
  have hs : (∑ e, f e * f e) = ((∑ e, g e * g e : ℝ) : EReal) := by
    rw [← sum_coe]; exact Finset.sum_congr rfl fun e _ => by rw [hg e, EReal.coe_mul]
  rw [hs, heq, ← EReal.coe_mul, ← EReal.coe_add]
  refine Rl.rsqrt (add_pos_of_nonneg_of_pos (mul_nonneg (Finset.sum_nonneg fun e _ => mul_self_nonneg _) hc.le) he)

theorem Rl.rms64 {x : Fin 64 → EReal} (h : ∀ e, Rl (x e)) {g : EReal} (hg : Rl g) (d : Fin 64) : Rl (rms64 x g d) := by
  unfold Mix.rms64
  rw [← m64_mul, i64]
  exact ((h d).mul (Rl.rsqrt_ms h (by norm_num))).mul hg

theorem Rl.std {x : Fin 1024 → EReal} (h : ∀ e, Rl (x e)) (d : Fin 1024) : Rl (Layer.std x d) := by
  unfold Layer.std
  have hd : ∀ e, Rl (x e - Layer.mean x) := fun e => (h e).sub (Rl.mean h)
  refine (hd d).mul ?_
  have := Rl.rsqrt_ms hd (c := 1 / 1024) (by norm_num)
  rwa [← Ideal.div_coe (by norm_num : (1024 : ℝ) ≠ 0), ← c1024] at this

theorem Rl.modu {x sc sh : Fin 1024 → EReal} (h : ∀ e, Rl (x e)) (hc : ∀ e, Rl (sc e)) (hs : ∀ e, Rl (sh e)) (d : Fin 1024) :
    Rl (Layer.modu x sc sh d) :=
  (((Rl.std h d).mul (Rl.one.add (hc d))).add (hs d))

theorem Rl.proj {X : Fin 256 → Fin 1024 → EReal} {sc sh : Fin 1024 → EReal} {W : Fin 1024 → Fin 2048 → EReal}
    (h : ∀ r e, Rl (X r e)) (hc : ∀ e, Rl (sc e)) (hs : ∀ e, Rl (sh e)) (hW : ∀ k n, Rl (W k n)) (r : Fin 256) (n : Fin 2048) :
    Rl (proj X sc sh W r n) :=
  Rl.sum fun k => (Rl.modu (h r) hc hs k).mul (hW k n)

/-! ## Sums over one head -/

/-- A sum against the indicator of one head is the sum over that head. -/
theorem sum_head {H : ℕ} (f O : Fin (H * 64) → EReal) (j : Fin H)
    (hO : ∀ (i : Fin H) (e : Fin 64), O ⟨i.val * 64 + e.val, by omega⟩ = if i = j then 1 else 0) :
    ∑ k, f k * O k = ∑ e : Fin 64, f ⟨j.val * 64 + e.val, by omega⟩ := by
  rw [Fin.sum_univ_tiles H 64 rfl, Finset.sum_eq_single j]
  · refine Finset.sum_congr rfl fun e _ => ?_
    rw [hO j e, if_pos rfl, mul_one]
  · intro i _ hi
    refine Finset.sum_eq_zero fun e _ => ?_
    rw [hO i e, if_neg hi, mul_zero]
  · intro h; exact absurd (Finset.mem_univ j) h

/-- A head's mean as the kernel takes it: the sum of the high parts and of the low parts against the head's indicator. -/
theorem mean_head {H : ℕ} (f O : Fin (H * 64) → EReal) (hf : ∀ k, Rl (f k)) (j : Fin H)
    (hO : ∀ k, O k = if k.val / 64 = j.val then 1 else 0) :
    (∑ k, f k * O k + ∑ k, (f k - f k) * O k) * Ideal.ofBits .f32 0x3C800000#32
      = m64 (fun e => f ⟨j.val * 64 + e.val, by omega⟩) := by
  have h0 : ∑ k, (f k - f k) * O k = 0 := Finset.sum_eq_zero fun k _ => by rw [(hf k).sub_self, zero_mul]
  rw [h0, add_zero, sum_head f O j fun i e => ?_, m64_mul]
  rw [hO]
  refine if_congr ⟨fun h => Fin.ext ?_, fun h => ?_⟩ rfl rfl
  · have : (i.val * 64 + e.val) / 64 = j.val := h
    omega
  · subst h
    show (i.val * 64 + e.val) / 64 = i.val
    omega

/-- A head over its root mean square, the mean square taken as the kernel takes it. -/
theorem rms_head {H : ℕ} (z O : Fin (H * 64) → EReal) (hz : ∀ k, Rl (z k)) (j : Fin H) (d : Fin 64)
    (hO : ∀ k, O k = if k.val / 64 = j.val then 1 else 0) (g : EReal) :
    z ⟨j.val * 64 + d.val, by omega⟩
        * Ideal.rsqrt ((∑ k, z k * z k * O k + ∑ k, (z k * z k - z k * z k) * O k) * Ideal.ofBits .f32 0x3C800000#32
          + Ideal.ofBits .f32 0x358637BD#32) * g
      = rms64 (fun e => z ⟨j.val * 64 + e.val, by omega⟩) g d := by
  rw [mean_head (fun k => z k * z k) O (fun k => (hz k).mul (hz k)) j hO]
  rfl

/-- A head standardised, both means taken as the kernel takes them. -/
theorem std_head {H : ℕ} (z : Fin (H * 64) → EReal) (O : Fin (H * 64) → Fin (H * 64) → EReal) (hz : ∀ k, Rl (z k)) (j : Fin H)
    (d : Fin 64) (hO : ∀ k c, O k c = if k.val / 64 = c.val / 64 then 1 else 0)
    (dv : Fin (H * 64) → EReal)
    (hd : ∀ c, dv c = z c - (∑ k, z k * O k c + ∑ k, (z k - z k) * O k c) * Ideal.ofBits .f32 0x3C800000#32) :
    dv ⟨j.val * 64 + d.val, by omega⟩
        * Ideal.rsqrt ((∑ k, dv k * dv k * O k ⟨j.val * 64 + d.val, by omega⟩
            + ∑ k, (dv k * dv k - dv k * dv k) * O k ⟨j.val * 64 + d.val, by omega⟩) * Ideal.ofBits .f32 0x3C800000#32
          + Ideal.ofBits .f32 0x358637BD#32)
      = std64 (fun e => z ⟨j.val * 64 + e.val, by omega⟩) d := by
  have hdv : ∀ c, dv c = z c - m64 (fun e => z ⟨c.val / 64 * 64 + e.val, by omega⟩) := fun c => by
    rw [hd c, mean_head z (fun k => O k c) hz ⟨c.val / 64, by omega⟩ fun k => hO k c]
  have hr : ∀ c, Rl (dv c) := fun c => by rw [hdv c]; exact (hz c).sub (Rl.m64 fun _ => hz _)
  have hj : ∀ e : Fin 64, dv ⟨j.val * 64 + e.val, by omega⟩
      = z ⟨j.val * 64 + e.val, by omega⟩ - m64 (fun e => z ⟨j.val * 64 + e.val, by omega⟩) := fun e => by
    have h : (j.val * 64 + e.val) / 64 = j.val := by omega
    rw [hdv]
    simp only [h]
  rw [mean_head (fun k => dv k * dv k) (fun k => O k ⟨j.val * 64 + d.val, by omega⟩) (fun k => (hr k).mul (hr k)) j fun k => ?_]
  · simp only [hj]
    rfl
  · rw [hO]
    have h : (j.val * 64 + d.val) / 64 = j.val := by omega
    simp only [h]

/-! ## The softmax quotient -/

theorem Rl.of_between {x y : EReal} {b : ℝ} (h : Rl y) (h1 : y ≤ x) (h2 : x ≤ b) : Rl x := by
  obtain ⟨a, rfl⟩ := h
  induction x using EReal.rec with
  | bot => exact absurd h1 (by simp)
  | coe r => exact ⟨r, rfl⟩
  | top => exact absurd h2 (by simp)

theorem le_top' (s : Fin 256 → EReal) (k : Fin 256) : s k ≤ top s :=
  (Finset.le_fold_max _).2 (Or.inr ⟨k, Finset.mem_univ k, le_rfl⟩)

theorem Rl.top {s : Fin 256 → EReal} (h : ∀ k, Rl (s k)) : Rl (top s) := by
  choose g hg using h
  refine Rl.of_between (b := ∑ k, |g k|) ⟨g 0, hg 0⟩ (le_top' s 0) ?_
  refine (Finset.fold_max_le _).2 ⟨by rw [bot]; exact bot_le, fun k _ => ?_⟩
  rw [hg k]
  exact EReal.coe_le_coe_iff.2 ((le_abs_self _).trans (Finset.single_le_sum (f := fun k => |g k|) (fun i _ => abs_nonneg _) (Finset.mem_univ k)))

/-- A finite row's weights are positive reals. -/
theorem wt_pos {s : Fin 256 → EReal} (h : ∀ k, Rl (s k)) (k : Fin 256) : ∃ a : ℝ, 0 < a ∧ wt s k = a := by
  obtain ⟨a, ha⟩ := (h k).sub (Rl.top h)
  exact ⟨_, Real.exp_pos a, by unfold wt; rw [ha, Ideal.exp_coe]⟩

/-- So is their sum. -/
theorem den_pos {s : Fin 256 → EReal} (h : ∀ k, Rl (s k)) : ∃ a : ℝ, 0 < a ∧ ∑ k, wt s k = a := by
  choose g hg hw using wt_pos h
  refine ⟨∑ k, g k, Finset.sum_pos (fun k _ => hg k) ⟨0, Finset.mem_univ _⟩, ?_⟩
  rw [← sum_coe]
  exact Finset.sum_congr rfl fun k _ => hw k

/-- Dividing the weighted sum at the end is weighting by the softmax. -/
theorem att_eq {s v : Fin 256 → EReal} (hs : ∀ k, Rl (s k)) (hv : ∀ k, Rl (v k)) :
    Ideal.div (∑ k, wt s k * v k) (∑ l, wt s l) = att s v := by
  obtain ⟨D, hD, hd⟩ := den_pos hs
  choose g _ hw using wt_pos hs
  choose f hf using hv
  unfold att
  rw [hd, Ideal.div_coe hD.ne']
  have h1 : ∀ k, wt s k * v k = ((g k * f k : ℝ) : EReal) := fun k => by rw [hw, hf, EReal.coe_mul]
  have h2 : ∀ k, v k * Ideal.div (wt s k) (D : EReal) = ((f k * (g k * (1 / D)) : ℝ) : EReal) := fun k => by
    rw [hw, hf, Ideal.div_coe hD.ne', EReal.coe_mul, EReal.coe_mul]
  rw [Finset.sum_congr rfl fun k _ => h1 k, Finset.sum_congr rfl fun k _ => h2 k, sum_coe, sum_coe, ← EReal.coe_mul]
  refine congrArg _ ?_
  rw [Finset.sum_mul]
  exact Finset.sum_congr rfl fun k _ => by ring

/-- A weighted sum of zeros over a positive sum is zero. -/
theorem att_zero {s : Fin 256 → EReal} (hs : ∀ k, Rl (s k)) : Ideal.div (∑ k, wt s k * 0) (∑ l, wt s l) = 0 := by
  obtain ⟨D, hD, hd⟩ := den_pos hs
  rw [hd, Ideal.div_coe hD.ne']
  simp

/-- What the kernel computes for two heads at once over 128 lanes: two weighted sums, each over its own sum of weights. -/
def pairAt (q : Fin 128 → EReal) (k0 v0 k1 v1 : Fin 256 → Fin 128 → EReal) (c : Fin 128) : EReal :=
  Ideal.div (∑ k, wt (fun s => ∑ l, q l * k0 s l) k * v0 k c) (∑ k, wt (fun s => ∑ l, q l * k0 s l) k)
    + Ideal.div (∑ k, wt (fun s => ∑ l, q l * k1 s l) k * v1 k c) (∑ k, wt (fun s => ∑ l, q l * k1 s l) k)

/-- A row of 64 lanes put in the lower half of 128. -/
def lowHalf (K : Fin 64 → EReal) (l : Fin 128) : EReal := if h : l.val < 64 then K ⟨l.val, h⟩ else 0

/-- A row of 64 lanes put in the upper half of 128. -/
def highHalf (K : Fin 64 → EReal) (l : Fin 128) : EReal := if h : l.val < 64 then 0 else K ⟨l.val - 64, by omega⟩

/-- The scale taken out of a finite product of a query and a key. -/
theorem scale_out {Q K : Fin 64 → EReal} (hQ : ∀ d, Rl (Q d)) (hK : ∀ d, Rl (K d)) :
    ∑ d, Q d * Ideal.ofBits .f32 0x3E000000#32 * K d = (∑ d, K d * Q d) * Ideal.ofBits .f32 0x3E000000#32 := by
  choose a ha using hQ
  choose b hb using hK
  rw [eighth]
  have h1 : ∀ d, Q d * ((1 / 8 : ℝ) : EReal) * K d = ((a d * (1 / 8) * b d : ℝ) : EReal) := fun d => by
    rw [ha, hb, EReal.coe_mul, EReal.coe_mul]
  have h2 : ∀ d, K d * Q d = ((b d * a d : ℝ) : EReal) := fun d => by rw [ha, hb, EReal.coe_mul]
  rw [Finset.sum_congr rfl fun d _ => h1 d, Finset.sum_congr rfl fun d _ => h2 d, sum_coe, sum_coe, ← EReal.coe_mul]
  refine congrArg _ ?_
  rw [Finset.sum_mul]
  exact Finset.sum_congr rfl fun d _ => by ring

theorem Rl.score {q : Fin 64 → EReal} {k : Fin 256 → Fin 64 → EReal} (hq : ∀ d, Rl (q d)) (hk : ∀ s d, Rl (k s d)) (s : Fin 256) :
    Rl (score q k s) := by
  unfold Mix.score
  rw [eighth]
  exact (Rl.sum fun d => (hk s d).mul (hq d)).mul (Rl.coe _)

/-- The two heads of a pair, each in its half of the lanes. -/
theorem pair_eq (Q : Fin 2 → Fin 64 → EReal) (K V : Fin 256 → Fin 64 → EReal) (hQ : ∀ i d, Rl (Q i d)) (hK : ∀ s d, Rl (K s d))
    (hV : ∀ s d, Rl (V s d)) (q : Fin 128 → EReal)
    (hq : ∀ i d, q ⟨i.val * 64 + d.val, by omega⟩ = Q i d * Ideal.ofBits .f32 0x3E000000#32) (i : Fin 2) (d : Fin 64) :
    pairAt q (fun s => lowHalf (K s)) (fun s => lowHalf (V s)) (fun s => highHalf (K s)) (fun s => highHalf (V s))
        ⟨i.val * 64 + d.val, by omega⟩
      = att (score (Q i) K) (fun s => V s d) := by
  have hs0 : (fun s => ∑ l, q l * lowHalf (K s) l) = score (Q 0) K := funext fun s => by
    rw [Fin.sum_univ_two_halves 64 64 rfl, score, ← scale_out (hQ 0) (hK s)]
    refine (congrArg₂ (· + ·) (Finset.sum_congr rfl fun e _ => ?_) (Finset.sum_eq_zero fun e _ => ?_)).trans (add_zero _)
    · have := hq 0 e
      simp only [Fin.val_zero, zero_mul, zero_add] at this
      rw [← this, lowHalf, dif_pos (show e.val < 64 from e.isLt)]
    · rw [lowHalf, dif_neg (show ¬ (64 + e.val < 64) by omega), mul_zero]
  have hs1 : (fun s => ∑ l, q l * highHalf (K s) l) = score (Q 1) K := funext fun s => by
    rw [Fin.sum_univ_two_halves 64 64 rfl, score, ← scale_out (hQ 1) (hK s)]
    refine (congrArg₂ (· + ·) (Finset.sum_eq_zero fun e _ => ?_) (Finset.sum_congr rfl fun e _ => ?_)).trans (zero_add _)
    · rw [highHalf, dif_pos (show e.val < 64 from e.isLt), mul_zero]
    · have := hq 1 e
      simp only [Fin.val_one, one_mul] at this
      rw [← this, highHalf, dif_neg (show ¬ (64 + e.val < 64) by omega)]
      refine congrArg _ (congrArg _ (Fin.ext ?_))
      show 64 + e.val - 64 = e.val
      omega
  have hr : ∀ i s, Rl (score (Q i) K s) := fun i => Rl.score (hQ i) hK
  unfold pairAt
  rw [hs0, hs1]
  match i with
  | 0 =>
    have e0 : ∀ s, lowHalf (V s) ⟨(0 : Fin 2).val * 64 + d.val, by omega⟩ = V s d := fun s => by
      rw [lowHalf, dif_pos (show (0 : Fin 2).val * 64 + d.val < 64 by simp)]
      exact congrArg _ (Fin.ext (by simp))
    have e1 : ∀ s, highHalf (V s) ⟨(0 : Fin 2).val * 64 + d.val, by omega⟩ = 0 := fun s => by
      rw [highHalf, dif_pos (show (0 : Fin 2).val * 64 + d.val < 64 by simp)]
    simp only [e0, e1]
    rw [att_zero (hr 1), add_zero, att_eq (hr 0) fun s => hV s d]
  | 1 =>
    have e0 : ∀ s, lowHalf (V s) ⟨(1 : Fin 2).val * 64 + d.val, by omega⟩ = 0 := fun s => by
      rw [lowHalf, dif_neg (show ¬ ((1 : Fin 2).val * 64 + d.val < 64) by simp)]
    have e1 : ∀ s, highHalf (V s) ⟨(1 : Fin 2).val * 64 + d.val, by omega⟩ = V s d := fun s => by
      rw [highHalf, dif_neg (show ¬ ((1 : Fin 2).val * 64 + d.val < 64) by simp)]
      exact congrArg _ (Fin.ext (by simp))
    simp only [e0, e1]
    rw [att_zero (hr 0), zero_add, att_eq (hr 1) fun s => hV s d]

end Cert.Mix
-- ==== Proof.MixPay.lean ====
/-
  The mixer kernel's arithmetic read at coordinates.
-/
module

public import proofs.«01_k».proof.Proof.MixFin
public import proofs.«01_k».proof.Proof.Gen.KernelIdeal.Skeleton
public import Idealize.ShloMosaic.Lib.WordCmp

@[expose] public section

set_option maxRecDepth 16384

noncomputable section

open Idealize.ShloMosaic Idealize.ShloMosaic.TcCoe Idealize.SL.Sem

namespace Cert.MixPay

open Cert.KernelIdeal Cert.KernelIdeal.Gen Cert.Layer Cert.Mix

/-- A choice on a lane number below 64. -/
theorem sel_lt {l : ℕ} (hl : l < 1024) (a b : EReal) :
    Scalar.select (IntOp.cmpi .slt (BitVec.ofNat 32 l) 64#32) a b = if l < 64 then a else b := by
  have h : IntOp.cmpi .slt (BitVec.ofNat 32 l) 64#32 = 1#1 ↔ l < 64 := by word_cmp
  unfold Scalar.select
  exact if_congr h rfl rfl

/-- A choice on a number's being another. -/
theorem sel_eq {l k : ℕ} (hl : l < 1024) (hk : k < 1024) (a b : EReal) :
    Scalar.select (IntOp.cmpi .eq (BitVec.ofNat 32 l) (BitVec.ofNat 32 k)) a b = if l = k then a else b := by
  have h : IntOp.cmpi .eq (BitVec.ofNat 32 l) (BitVec.ofNat 32 k) = 1#1 ↔ l = k := by word_cmp
  unfold Scalar.select
  exact if_congr h rfl rfl

/-- A choice on a lane number's lying between two bounds. -/
theorem sel_in {l j k : ℕ} (hl : l < 1024) (hj : j < 1024) (hk : k < 1024) (a b : EReal) :
    Scalar.select (IntOp.andi (IntOp.cmpi .sge (BitVec.ofNat 32 l) (BitVec.ofNat 32 j))
      (IntOp.cmpi .slt (BitVec.ofNat 32 l) (BitVec.ofNat 32 k))) a b = if j ≤ l ∧ l < k then a else b := by
  have h : IntOp.andi (IntOp.cmpi .sge (BitVec.ofNat 32 l) (BitVec.ofNat 32 j))
      (IntOp.cmpi .slt (BitVec.ofNat 32 l) (BitVec.ofNat 32 k)) = 1#1 ↔ j ≤ l ∧ l < k := by word_cmp
  unfold Scalar.select
  exact if_congr h rfl rfl

/-- The projected rows. -/
theorem pay2_at (x : FVec Ideal S256x1024 .f32) (sc sh : FVec Ideal S1x1x1024 .f32) (w : FVec Ideal S1024x2048 .bf16)
    (r : Fin 256) (n : Fin 2048) :
    k0_pay2 (F := Ideal) x sc sh w (ix2 r n)
      = proj (fun r k => x (ix2 r k)) (fun k => sc (ix3 0 0 k)) (fun k => sh (ix3 0 0 k)) (fun k n => w (ix2 k n)) r n := by
  pointwise [k0_pay2, proj, modu, std, mean]

/-- The heads' indicator is used as it comes. -/
theorem pay3_at (o : FVec Ideal S512x512 .bf16) (a b : Fin 512) : k0_pay3 (F := Ideal) o (ix2 a b) = o (ix2 a b) := by
  pointwise [k0_pay3]

/-- The keys. -/
theorem pay8_at (z : FVec Ideal S256x2048 .f32) (o : FVec Ideal S512x512 .bf16) (g : FVec Ideal S1x128 .f32)
    (Z : Fin 256 → Fin 2048 → EReal) (hz : ∀ r n, z (ix2 r n) = Z r n) (hZ : ∀ r n, Rl (Z r n))
    (ho : ∀ a b : Fin 512, o (ix2 a b) = if a.val / 64 = b.val / 64 then 1 else 0) (gk : Fin 64 → EReal)
    (hg : ∀ (j : Fin 2) (d : Fin 64), g (ix2 0 ⟨j.val * 64 + d.val, by omega⟩) = gk d)
    (r : Fin 256) (j : Fin 2) (d : Fin 64) :
    k0_pay8 (F := Ideal) z o g (ix2 r ⟨j.val * 64 + d.val, by omega⟩) = kh Z gk r j d := by
  pointwise [k0_pay8, hz, ho, hg]
  refine rms_head (H := 2) (fun k => Z r ⟨512 + k.val, by omega⟩) (fun k => if k.val / 64 = (j.val * 64 + d.val) / 64 then 1 else 0)
    (fun k => hZ _ _) j d (fun k => ?_) (gk d)
  have h : (j.val * 64 + d.val) / 64 = j.val := by omega
  simp only [h]

/-- The values. -/
theorem pay9_at (z : FVec Ideal S256x2048 .f32) (Z : Fin 256 → Fin 2048 → EReal) (hz : ∀ r n, z (ix2 r n) = Z r n)
    (r : Fin 256) (j : Fin 2) (d : Fin 64) :
    k0_pay9 (F := Ideal) z (ix2 r ⟨j.val * 64 + d.val, by omega⟩) = vh Z r j d := by
  pointwise [k0_pay9, hz, vh]

/-- The queries, scaled. -/
theorem pay11_at (x : FVec Ideal S256x1024 .f32) (sc sh : FVec Ideal S1x1x1024 .f32) (w : FVec Ideal S1024x2048 .bf16)
    (o : FVec Ideal S512x512 .bf16) (g : FVec Ideal S1x512 .f32)
    (Z : Fin 256 → Fin 2048 → EReal) (hz : ∀ r n, k0_pay2 (F := Ideal) x sc sh w (ix2 r n) = Z r n) (hZ : ∀ r n, Rl (Z r n))
    (ho : ∀ a b : Fin 512, o (ix2 a b) = if a.val / 64 = b.val / 64 then 1 else 0) (gq : Fin 64 → EReal)
    (hg : ∀ (j : Fin 8) (d : Fin 64), g (ix2 0 ⟨j.val * 64 + d.val, by omega⟩) = gq d)
    (r : Fin 256) (i : Fin 2) (h : Fin 4) (d : Fin 64) :
    k0_pay11 (F := Ideal) (k0_pay10 (F := Ideal) o (k0_pay4 (F := Ideal) x sc sh w) (k0_pay6 (F := Ideal) x sc sh w)
        (k0_pay7 (F := Ideal) x sc sh w) g) (ix2 r ⟨(i.val * 4 + h.val) * 64 + d.val, by omega⟩)
      = qh Z gq r i h d * Ideal.ofBits .f32 0x3E000000#32 := by
  have hg' := hg ⟨i.val * 4 + h.val, by omega⟩ d
  pointwise [k0_pay11, k0_pay10, k0_pay7, k0_pay6, k0_pay5, k0_pay4, hz, ho]
  refine congrArg (· * Ideal.ofBits .f32 0x3E000000#32) ?_
  refine (congrArg _ hg').trans ?_
  refine rms_head (H := 8) (fun k => Z r ⟨k.val, by omega⟩) (fun k => if k.val / 64 = ((i.val * 4 + h.val) * 64 + d.val) / 64 then 1 else 0)
    (fun k => hZ _ _) ⟨i.val * 4 + h.val, by omega⟩ d (fun k => ?_) (gq d)
  have h : ((i.val * 4 + h.val) * 64 + d.val) / 64 = i.val * 4 + h.val := by omega
  simp only [h]

variable (x : FVec Ideal S256x128 .f32) (K : Fin 256 → Fin 2 → Fin 64 → EReal)
  (hx : ∀ s (g : Fin 2) (d : Fin 64), x (ix2 s ⟨g.val * 64 + d.val, by omega⟩) = K s g d)

include hx

/-- The first group's rows below lane 64. -/
theorem low0 (s : Fin 256) (l : Fin 128) : (if l.val < 64 then x (ix2 s l) else 0) = lowHalf (K s 0) l := by
  unfold lowHalf
  by_cases h : l.val < 64
  · rw [if_pos h, dif_pos h, ← hx]
    exact congrArg (fun j => x (ix2 s j)) (Fin.ext (by simp))
  · rw [if_neg h, dif_neg h]

/-- The second group's rows from lane 64. -/
theorem high1 (s : Fin 256) (l : Fin 128) : (if l.val < 64 then 0 else x (ix2 s l)) = highHalf (K s 1) l := by
  unfold highHalf
  by_cases h : l.val < 64
  · rw [if_pos h, dif_pos h]
  · rw [if_neg h, dif_neg h, ← hx]
    exact congrArg (fun j => x (ix2 s j)) (Fin.ext (by simp; omega))

/-- The second group's rows turned into the lower lanes. -/
theorem low1 (s : Fin 256) (l : Fin 128) :
    (if l.val < 64 then x (ix2 s ⟨(l.val + 128 - 64) % 128, by omega⟩) else 0) = lowHalf (K s 1) l := by
  unfold lowHalf
  by_cases h : l.val < 64
  · rw [if_pos h, dif_pos h, ← hx]
    exact congrArg (fun j => x (ix2 s j)) (Fin.ext (by simp; omega))
  · rw [if_neg h, dif_neg h]

/-- The first group's rows turned into the upper lanes. -/
theorem high0 (s : Fin 256) (l : Fin 128) :
    (if l.val < 64 then 0 else x (ix2 s ⟨(l.val + 128 - 64) % 128, by omega⟩)) = highHalf (K s 0) l := by
  unfold highHalf
  by_cases h : l.val < 64
  · rw [if_pos h, dif_pos h]
  · rw [if_neg h, dif_neg h, ← hx]
    exact congrArg (fun j => x (ix2 s j)) (Fin.ext (by simp; omega))

theorem pay15_at (s : Fin 256) (l : Fin 128) : k0_pay15 (F := Ideal) x (ix3 0 s l) = lowHalf (K s 0) l := by
  pointwise [k0_pay15, k0_pay12, k0_pay14]
  exact (sel_lt (by omega) _ _).trans (low0 x K hx s l)

theorem pay16_at (s : Fin 256) (l : Fin 128) : k0_pay16 (F := Ideal) x (ix3 0 s l) = highHalf (K s 0) l := by
  pointwise [k0_pay16, k0_pay12, k0_pay13, k0_pay14]
  exact (sel_lt (by omega) _ _).trans (high0 x K hx s l)

theorem pay17_at (s : Fin 256) (l : Fin 128) : k0_pay17 (F := Ideal) x (ix3 0 s l) = lowHalf (K s 1) l := by
  pointwise [k0_pay17, k0_pay12, k0_pay13, k0_pay14]
  exact (sel_lt (by omega) _ _).trans (low1 x K hx s l)

theorem pay18_at (s : Fin 256) (l : Fin 128) : k0_pay18 (F := Ideal) x (ix3 0 s l) = highHalf (K s 1) l := by
  pointwise [k0_pay18, k0_pay12, k0_pay14]
  exact (sel_lt (by omega) _ _).trans (high1 x K hx s l)

theorem pay24_at (s : Fin 256) (l : Fin 128) : k0_pay24 (F := Ideal) (k0_pay22 (F := Ideal) x) (ix3 0 s l) = lowHalf (K s 0) l := by
  pointwise [k0_pay24, k0_pay22, k0_pay19, k0_pay21]
  exact (sel_lt (by omega) _ _).trans (low0 x K hx s l)

theorem pay25_at (s : Fin 256) (l : Fin 128) : k0_pay25 (F := Ideal) (k0_pay23 (F := Ideal) x) (ix3 0 s l) = highHalf (K s 0) l := by
  pointwise [k0_pay25, k0_pay23, k0_pay19, k0_pay20, k0_pay21]
  exact (sel_lt (by omega) _ _).trans (high0 x K hx s l)

theorem pay26_at (s : Fin 256) (l : Fin 128) :
    k0_pay26 (F := Ideal) k0_pay19 (k0_pay20 (F := Ideal) x) (k0_pay21 (F := Ideal)) (ix3 0 s l) = lowHalf (K s 1) l := by
  pointwise [k0_pay26, k0_pay19, k0_pay20, k0_pay21]
  exact (sel_lt (by omega) _ _).trans (low1 x K hx s l)

theorem pay27_at (s : Fin 256) (l : Fin 128) :
    k0_pay27 (F := Ideal) x k0_pay19 (k0_pay21 (F := Ideal)) (ix3 0 s l) = highHalf (K s 1) l := by
  pointwise [k0_pay27, k0_pay19, k0_pay21]
  exact (sel_lt (by omega) _ _).trans (high1 x K hx s l)

omit hx

/-- The gating values normalised. -/
theorem pay35_at (z : FVec Ideal S256x2048 .f32) (o : FVec Ideal S512x512 .bf16) (g : FVec Ideal S1x256 .f32)
    (Z : Fin 256 → Fin 2048 → EReal) (hz : ∀ r n, z (ix2 r n) = Z r n) (hZ : ∀ r n, Rl (Z r n))
    (ho : ∀ a b : Fin 512, o (ix2 a b) = if a.val / 64 = b.val / 64 then 1 else 0)
    (r : Fin 256) (h : Fin 4) (e : Fin 64) :
    k0_pay35 (F := Ideal) (k0_pay31 (F := Ideal) z) (k0_pay32 (F := Ideal) o) (k0_pay33 (F := Ideal) z) (k0_pay34 (F := Ideal) z) g
        (ix2 r ⟨h.val * 64 + e.val, by omega⟩)
      = std64 (fun e => Z r ⟨1792 + (h.val * 64 + e.val), by omega⟩) e * g (ix2 0 ⟨h.val * 64 + e.val, by omega⟩) := by
  pointwise [k0_pay35, k0_pay34, k0_pay33, k0_pay32, k0_pay31, hz, ho]
  refine congrArg (· * g (ix2 0 ⟨h.val * 64 + e.val, by omega⟩)) ?_
  exact std_head (H := 4) (fun k => Z r ⟨1792 + k.val, by omega⟩) (fun k c => if k.val / 64 = c.val / 64 then 1 else 0)
    (fun k => hZ _ _) h e (fun _ _ => rfl)
    (fun c => Z r ⟨1792 + c.val, by omega⟩
      - (∑ k : Fin 256, Z r ⟨1792 + k.val, by omega⟩ * (if k.val / 64 = c.val / 64 then 1 else 0)
        + ∑ k : Fin 256, (Z r ⟨1792 + k.val, by omega⟩ - Z r ⟨1792 + k.val, by omega⟩) * (if k.val / 64 = c.val / 64 then 1 else 0))
          * Ideal.ofBits .f32 0x3C800000#32)
    (fun _ => rfl)

/-- The gated convolution. -/
theorem pay40_at (z : FVec Ideal S256x2048 .f32) (Z : Fin 256 → Fin 2048 → EReal) (hz : ∀ r n, z (ix2 r n) = Z r n)
    (w0 w1 w2 b : FVec Ideal S1x256 .f32) (cw : Fin 3 → Fin 256 → EReal) (cb : Fin 256 → EReal)
    (h0 : ∀ n, w0 (ix2 0 n) = cw 0 n) (h1 : ∀ n, w1 (ix2 0 n) = cw 1 n) (h2 : ∀ n, w2 (ix2 0 n) = cw 2 n)
    (hb : ∀ n, b (ix2 0 n) = cb n) (r : Fin 256) (n : Fin 256) :
    k0_pay40 (F := Ideal) (k0_pay28 (F := Ideal) z) (k0_pay36 (F := Ideal) (k0_pay28 (F := Ideal) z)) k0_pay37
        (k0_pay38 (F := Ideal) (k0_pay28 (F := Ideal) z)) (k0_pay39 (F := Ideal)) w0 w1 w2 b (k0_pay29 (F := Ideal) z) (ix2 r n)
      = conv Z cw cb r n := by
  pointwise [k0_pay40, k0_pay36, k0_pay37, k0_pay38, k0_pay39, k0_pay28, k0_pay29, hz, h0, h1, h2, hb, conv, cin]
  have e0 : Scalar.select (IntOp.cmpi .eq (BitVec.ofNat 32 r.val) 0#32) 0
        (Z ⟨(r.val + 256 - 1) % 256, by omega⟩ ⟨1280 + n.val, by omega⟩ * Z ⟨(r.val + 256 - 1) % 256, by omega⟩ ⟨768 + n.val, by omega⟩ * cw 0 n)
      = (if h : 0 < r.val then Z ⟨r.val - 1, by omega⟩ ⟨1280 + n.val, by omega⟩ * Z ⟨r.val - 1, by omega⟩ ⟨768 + n.val, by omega⟩ else 0)
        * cw 0 n := by
    refine (sel_eq (l := r.val) (k := 0) (by omega) (by omega) _ _).trans ?_
    by_cases h : r.val = 0
    · rw [if_pos h, dif_neg (by omega), zero_mul]
    · have hr : (⟨(r.val + 256 - 1) % 256, by omega⟩ : Fin 256) = ⟨r.val - 1, by omega⟩ := Fin.ext (by simp; omega)
      rw [if_neg h, dif_pos (by omega), hr]
  have e2 : Scalar.select (IntOp.cmpi .eq (BitVec.ofNat 32 r.val) 255#32) 0
        (Z ⟨(r.val + 256 - 255) % 256, by omega⟩ ⟨1280 + n.val, by omega⟩ * Z ⟨(r.val + 256 - 255) % 256, by omega⟩ ⟨768 + n.val, by omega⟩ * cw 2 n)
      = (if h : r.val < 255 then Z ⟨r.val + 1, by omega⟩ ⟨1280 + n.val, by omega⟩ * Z ⟨r.val + 1, by omega⟩ ⟨768 + n.val, by omega⟩ else 0)
        * cw 2 n := by
    refine (sel_eq (l := r.val) (k := 255) (by omega) (by omega) _ _).trans ?_
    by_cases h : r.val = 255
    · rw [if_pos h, dif_neg (by omega), zero_mul]
    · have hr : (⟨(r.val + 256 - 255) % 256, by omega⟩ : Fin 256) = ⟨r.val + 1, by omega⟩ := Fin.ext (by simp; omega)
      rw [if_neg h, dif_pos (by omega), hr]
  rw [e0, e2]

/-- Sums over the four heads' matrices, each kept only in the head's own lanes, come to the lane's own head's sum. -/
theorem four_heads (w : Fin 4 → Fin 128 → EReal) (v : Fin 128 → EReal) (b : EReal) (h : Fin 4) (e : Fin 64) :
    b + ∑ x, Scalar.select (IntOp.andi (IntOp.cmpi .sge (BitVec.ofNat 32 (h.val * 64 + e.val)) (BitVec.ofNat 32 0))
            (IntOp.cmpi .slt (BitVec.ofNat 32 (h.val * 64 + e.val)) (BitVec.ofNat 32 64))) (w 0 x * v x) 0
        + ∑ x, Scalar.select (IntOp.andi (IntOp.cmpi .sge (BitVec.ofNat 32 (h.val * 64 + e.val)) (BitVec.ofNat 32 64))
            (IntOp.cmpi .slt (BitVec.ofNat 32 (h.val * 64 + e.val)) (BitVec.ofNat 32 128))) (w 1 x * v x) 0
        + ∑ x, Scalar.select (IntOp.andi (IntOp.cmpi .sge (BitVec.ofNat 32 (h.val * 64 + e.val)) (BitVec.ofNat 32 128))
            (IntOp.cmpi .slt (BitVec.ofNat 32 (h.val * 64 + e.val)) (BitVec.ofNat 32 192))) (w 2 x * v x) 0
        + ∑ x, Scalar.select (IntOp.andi (IntOp.cmpi .sge (BitVec.ofNat 32 (h.val * 64 + e.val)) (BitVec.ofNat 32 192))
            (IntOp.cmpi .slt (BitVec.ofNat 32 (h.val * 64 + e.val)) (BitVec.ofNat 32 256))) (w 3 x * v x) 0
      = ∑ x, v x * w h x + b := by
  have hs : ∀ j k : ℕ, j < 1024 → k < 1024 → ∀ f : Fin 128 → EReal,
      (∑ x, Scalar.select (IntOp.andi (IntOp.cmpi .sge (BitVec.ofNat 32 (h.val * 64 + e.val)) (BitVec.ofNat 32 j))
        (IntOp.cmpi .slt (BitVec.ofNat 32 (h.val * 64 + e.val)) (BitVec.ofNat 32 k))) (f x) 0)
      = if j ≤ h.val * 64 + e.val ∧ h.val * 64 + e.val < k then ∑ x, f x else 0 := fun j k hj hk f => by
    rw [Finset.sum_congr rfl fun x _ => sel_in (by omega) hj hk (f x) 0]
    by_cases hc : j ≤ h.val * 64 + e.val ∧ h.val * 64 + e.val < k
    · simp only [if_pos hc]
    · simp only [if_neg hc, Finset.sum_const_zero]
  rw [hs 0 64 (by omega) (by omega), hs 64 128 (by omega) (by omega), hs 128 192 (by omega) (by omega),
    hs 192 256 (by omega) (by omega), Finset.sum_congr rfl fun x _ => mul_comm (v x) (w h x), add_comm (∑ x, w h x * v x) b]
  fin_cases h
  · rw [if_pos (by simp), if_neg (by simp <;> omega), if_neg (by simp <;> omega), if_neg (by simp <;> omega)]
    simp
  · rw [if_neg (by simp), if_pos (by simp <;> omega), if_neg (by simp <;> omega), if_neg (by simp <;> omega)]
    simp
  · rw [if_neg (by simp <;> omega), if_neg (by simp <;> omega), if_pos (by simp <;> omega), if_neg (by simp <;> omega)]
    simp
  · rw [if_neg (by simp <;> omega), if_neg (by simp <;> omega), if_neg (by simp <;> omega), if_pos (by simp <;> omega)]
    simp

variable (v : FVec Ideal S128x256 .bf16) (b su : FVec Ideal S128x256 .f32) (w0 w1 w2 w3 : FVec Ideal S1x128x128 .bf16)
  (sw : Fin 4 → Fin 128 → Fin 128 → EReal) (h0 : ∀ p q, w0 (ix3 0 p q) = sw 0 p q) (h1 : ∀ p q, w1 (ix3 0 p q) = sw 1 p q)
  (h2 : ∀ p q, w2 (ix3 0 p q) = sw 2 p q) (h3 : ∀ p q, w3 (ix3 0 p q) = sw 3 p q)

include h0 h1 h2 h3

/-- The spatial gating unit of the first chunk. -/
theorem pay44_at (r : Fin 128) (h : Fin 4) (e : Fin 64) :
    k0_pay44 (F := Ideal) (k0_pay43 (F := Ideal) v (iota .tc S128x256 32 [1] iota_S128x256_d1_w32) (k0_pay41 (F := Ideal) b)
        (k0_pay42 (F := Ideal) v) w0 w1 w2 w3) su (ix2 r ⟨h.val * 64 + e.val, by omega⟩)
      = su (ix2 r ⟨h.val * 64 + e.val, by omega⟩)
        * (∑ q, v (ix2 q ⟨h.val * 64 + e.val, by omega⟩) * sw h r q + b (ix2 r ⟨h.val * 64 + e.val, by omega⟩)) := by
  pointwise [k0_pay44, k0_pay43, k0_pay42, k0_pay41, h0, h1, h2, h3]
  exact congrArg _ (four_heads (fun h x => sw h r x) (fun x => v (ix2 x ⟨h.val * 64 + e.val, by omega⟩)) _ h e)

/-- The spatial gating unit of the second chunk. -/
theorem pay47_at (r : Fin 128) (h : Fin 4) (e : Fin 64) :
    k0_pay47 (F := Ideal) v (iota .tc S128x256 32 [1] iota_S128x256_d1_w32) (k0_pay45 (F := Ideal) v b w0 w1) k0_pay46 w2 w3 su
        (ix2 r ⟨h.val * 64 + e.val, by omega⟩)
      = su (ix2 r ⟨h.val * 64 + e.val, by omega⟩)
        * (∑ q, v (ix2 q ⟨h.val * 64 + e.val, by omega⟩) * sw h r q + b (ix2 r ⟨h.val * 64 + e.val, by omega⟩)) := by
  pointwise [k0_pay47, k0_pay45, k0_pay46, h0, h1, h2, h3]
  exact congrArg _ (four_heads (fun h x => sw h r x) (fun x => v (ix2 x ⟨h.val * 64 + e.val, by omega⟩)) _ h e)

omit h0 h1 h2 h3

variable (q : FVec Ideal S256x128 .bf16) (k0 v0 k1 v1 : FVec Ideal S1x256x128 .bf16) (r : Fin 256) (c : Fin 128)

theorem pay51_at :
    k0_pay51 (F := Ideal) q (k0_pay48 (F := Ideal)) (k0_pay49 (F := Ideal) q k0) (k0_pay50 (F := Ideal) q k0) v0 k1 v1 (ix2 r c)
      = pairAt (fun l => q (ix2 r l)) (fun s l => k0 (ix3 0 s l)) (fun s l => v0 (ix3 0 s l)) (fun s l => k1 (ix3 0 s l))
          (fun s l => v1 (ix3 0 s l)) c := by
  pointwise [k0_pay48, k0_pay49, k0_pay50, k0_pay51, pairAt, wt, top]

theorem pay55_at :
    k0_pay55 (F := Ideal) q (k0_pay52 (F := Ideal)) (k0_pay53 (F := Ideal) q k0) (k0_pay54 (F := Ideal) q k0) v0 k1 v1 (ix2 r c)
      = pairAt (fun l => q (ix2 r l)) (fun s l => k0 (ix3 0 s l)) (fun s l => v0 (ix3 0 s l)) (fun s l => k1 (ix3 0 s l))
          (fun s l => v1 (ix3 0 s l)) c := by
  pointwise [k0_pay52, k0_pay53, k0_pay54, k0_pay55, pairAt, wt, top]

theorem pay57_at :
    k0_pay57 (F := Ideal) q (k0_pay56 (F := Ideal)) k0 v0 k1 v1 (ix2 r c)
      = pairAt (fun l => q (ix2 r l)) (fun s l => k0 (ix3 0 s l)) (fun s l => v0 (ix3 0 s l)) (fun s l => k1 (ix3 0 s l))
          (fun s l => v1 (ix3 0 s l)) c := by
  pointwise [k0_pay56, k0_pay57, pairAt, wt, top]

theorem pay59_at :
    k0_pay59 (F := Ideal) (k0_pay58 (F := Ideal) q k0 v0 k1 v1) (ix2 r c)
      = pairAt (fun l => q (ix2 r l)) (fun s l => k0 (ix3 0 s l)) (fun s l => v0 (ix3 0 s l)) (fun s l => k1 (ix3 0 s l))
          (fun s l => v1 (ix3 0 s l)) c := by
  pointwise [k0_pay58, k0_pay59, pairAt, wt, top]

/-- The result row from the mixed row. -/
theorem pay1_at (M : FVec Ideal S256x1024 .bf16) (wo : FVec Ideal S1024x1024 .bf16) (x : FVec Ideal S256x1024 .f32)
    (gt : FVec Ideal S1x1x1024 .f32) (g b : FVec Ideal S1x1024 .f32) (j : Fin 1024) :
    k0_pay1 (F := Ideal) (k0_pay60 (F := Ideal) M wo x gt g) (k0_pay61 (F := Ideal) b) (ix2 r j)
      = out (fun k => x (ix2 r k)) (fun k => gt (ix3 0 0 k)) (fun k => M (ix2 r k)) (fun k j => wo (ix2 k j)) (fun k => g (ix2 0 k))
          (fun k => b (ix2 0 k)) j := by
  pointwise [k0_pay1, k0_pay60, k0_pay61, out, res, std, mean]

end Cert.MixPay
-- ==== Proof.MixHost.lean ====
/-
  The mixer kernel's operands as its host part makes them, at coordinates.
-/
module

public import proofs.«01_k».proof.Proof.MixPay
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixHost

open Cert.KernelIdeal Cert.KernelIdeal.Gen Cert.Layer

variable (m : (ℓ : Loc nD τ sig) → Buf (Elt Ideal) ℓ)

/-- The modulation table: rows of zeros added below the six. -/
theorem V0_at (c : Dev nD) (a : Fin 3) (q : Fin 6) (k : Fin 1024) :
    (show FVec Ideal S3x8x1024 .f32 from V m c main_v0) (ix3 a ⟨q.val, by omega⟩ k)
      = (show FVec Ideal S3x6x1024 .f32 from m ((c : Thread nD τ).loc main_arg1)) (ix3 a q k) := by
  simp only [V, hostOps0, hostOps0_1, hostOps0_2, hostOps0_3, hostOps0_4, hostOps0_5, hostOps0_6, List.flatten_cons, List.flatten_nil, List.append_nil, List.cons_append,
    List.nil_append]
  entry_read
  refine Eq.trans (b := pad S3x8x1024 ![0, 0, 0] ![0, 2, 0] ![0, 0, 0]
    (show FVec Ideal S3x6x1024 .f32 from m ((c : Thread nD τ).loc main_arg1)) (sitofp (F := Ideal) .f32 (constantI S_ 32 0#32))
    pads_S3x6x1024_S3x8x1024_000_020_000 h_S_ (ix3 a ⟨q.val, by omega⟩ k)) rfl ?_
  pointwise

/-- The number of the head a lane belongs to, as the host part computes it: the quotient by 64, corrected where
    the signs differ. -/
def lane (a : ℕ) : BitVec 32 :=
  Scalar.select
    (IntOp.andi
      (IntOp.cmpi (w := 32) .ne (if BitVec.ofNat 32 a = 0 then 0 else if (BitVec.ofNat 32 a).msb = true then -1 else 1)
        (if 64#32 = 0 then 0 else if (64#32).msb = true then -1 else 1))
      (IntOp.cmpi .ne (IntOp.remsi .host (BitVec.ofNat 32 a) 64#32) 0#32))
    (IntOp.subi (IntOp.divsi .host (BitVec.ofNat 32 a) 64#32) 1#32)
    (IntOp.divsi .host (BitVec.ofNat 32 a) 64#32)

theorem lane_at : ∀ a : Fin 512, lane a.val = BitVec.ofNat 32 (a.val / 64) := by
  decide +kernel

theorem same_lane : ∀ p q : Fin 8, IntOp.cmpi .eq (BitVec.ofNat 32 p.val) (BitVec.ofNat 32 q.val) = if p.val = q.val then 1#1 else 0#1 := by
  decide +kernel

/-- The table of ones: one where the two lanes lie in one head. -/
theorem V8_at (c : Dev nD) (a b : Fin 512) :
    (show FVec Ideal S512x512 .bf16 from V m c main_v8) (ix2 a b)
      = if a.val / 64 = b.val / 64 then 1 else 0 := by
  simp only [V, hostOps0, hostOps0_1, hostOps0_2, hostOps0_3, hostOps0_4, hostOps0_5, hostOps0_6, List.flatten_cons, List.flatten_nil, List.append_nil, List.cons_append,
    List.nil_append]
  entry_read
  simp -implicitDefEqProofs only [StableHlo.TRef.ofBuf_toBuf, StableHlo.TRef.ofBuf, StableHlo.TRef.toBuf, cast_eq]
  pointwise
  change FloatOps.uitofp (F := Ideal) .bf16 (IntOp.cmpi .eq (lane a.val) (lane b.val)) = _
  rw [lane_at, lane_at]
  have e := same_lane ⟨a.val / 64, by omega⟩ ⟨b.val / 64, by omega⟩
  dsimp only at e
  rw [e]
  split_ifs
  · show (((1#1 : BitVec 1).toNat : ℝ) : EReal) = 1
    norm_num
  · show (((0#1 : BitVec 1).toNat : ℝ) : EReal) = 0
    norm_num

/-- The query gain, once for each of the eight heads. -/
theorem V15_at (c : Dev nD) (j : Fin 8) (d : Fin 64) :
    (show FVec Ideal S1x512 .f32 from V m c main_v15) (ix2 0 ⟨j.val * 64 + d.val, by omega⟩)
      = (show FVec Ideal S64 .f32 from m ((c : Thread nD τ).loc main_arg4)) (ix1 d) := by
  simp only [V, hostOps0, hostOps0_1, hostOps0_2, hostOps0_3, hostOps0_4, hostOps0_5, hostOps0_6, List.flatten_cons, List.flatten_nil, List.append_nil, List.cons_append,
    List.nil_append]
  entry_read
  pointwise
  exact congrArg _ (congrArg ix1 (Fin.ext (by simp <;> omega)))

/-- The key gain, once for each of the two key heads. -/
theorem V19_at (c : Dev nD) (j : Fin 2) (d : Fin 64) :
    (show FVec Ideal S1x128 .f32 from V m c main_v19) (ix2 0 ⟨j.val * 64 + d.val, by omega⟩)
      = (show FVec Ideal S64 .f32 from m ((c : Thread nD τ).loc main_arg5)) (ix1 d) := by
  simp only [V, hostOps0, hostOps0_1, hostOps0_2, hostOps0_3, hostOps0_4, hostOps0_5, hostOps0_6, List.flatten_cons, List.flatten_nil, List.append_nil, List.cons_append,
    List.nil_append]
  entry_read
  pointwise
  exact congrArg _ (congrArg ix1 (Fin.ext (by simp <;> omega)))

/-- The convolution's taps, rows of zeros added below. -/
theorem V20_at (c : Dev nD) (i : Fin 3) (n : Fin 256) :
    (show FVec Ideal S8x256 .f32 from V m c main_v20) (ix2 ⟨i.val, by omega⟩ n)
      = (show FVec Ideal S3x256 .f32 from m ((c : Thread nD τ).loc main_arg6)) (ix2 i n) := by
  simp only [V, hostOps0, hostOps0_1, hostOps0_2, hostOps0_3, hostOps0_4, hostOps0_5, hostOps0_6, List.flatten_cons, List.flatten_nil, List.append_nil, List.cons_append,
    List.nil_append]
  entry_read
  refine Eq.trans (b := pad S8x256 ![0, 0] ![5, 0] ![0, 0]
    (show FVec Ideal S3x256 .f32 from m ((c : Thread nD τ).loc main_arg6)) (sitofp (F := Ideal) .f32 (constantI S_ 32 0#32))
    pads_S3x256_S8x256_050_000 h_S_ (ix2 ⟨i.val, by omega⟩ n)) rfl ?_
  pointwise

/-- The gating bias, transposed and once for each lane of its head. -/
theorem V26_at (c : Dev nD) (p : Fin 128) (h : Fin 4) (e : Fin 64) :
    (show FVec Ideal S128x256 .f32 from V m c main_v26) (ix2 p ⟨h.val * 64 + e.val, by omega⟩)
      = (show FVec Ideal S4x128 .f32 from m ((c : Thread nD τ).loc main_arg10)) (ix2 h p) := by
  simp only [V, hostOps0, hostOps0_1, hostOps0_2, hostOps0_3, hostOps0_4, hostOps0_5, hostOps0_6, List.flatten_cons, List.flatten_nil, List.append_nil, List.cons_append,
    List.nil_append]
  entry_read
  pointwise

/-- The tokens, one row each. -/
theorem V9_at (c : Dev nD) (t : Fin 32) (r : Fin 256) (k : Fin 1024) :
    (show FVec Ideal S8192x1024 .f32 from V m c main_v9) (ix2 ⟨t.val * 256 + r.val, by omega⟩ k)
      = (show FVec Ideal S32x256x1024 .f32 from m ((c : Thread nD τ).loc main_arg0)) (ix3 t r k) := by
  simp only [V, hostOps0, hostOps0_1, hostOps0_2, hostOps0_3, hostOps0_4, hostOps0_5, hostOps0_6, List.flatten_cons, List.flatten_nil, List.append_nil, List.cons_append,
    List.nil_append]
  entry_read
  pointwise

/-- The first matrix. -/
theorem V10_at (c : Dev nD) (k : Fin 1024) (n : Fin 2048) :
    (show FVec Ideal S1024x2048 .bf16 from V m c main_v10) (ix2 k n)
      = (show FVec Ideal S1024x2048 .f32 from m ((c : Thread nD τ).loc main_arg2)) (ix2 k n) := by
  simp only [V, hostOps0, hostOps0_1, hostOps0_2, hostOps0_3, hostOps0_4, hostOps0_5, hostOps0_6, List.flatten_cons, List.flatten_nil, List.append_nil, List.cons_append,
    List.nil_append]
  entry_read
  pointwise

/-- The second matrix. -/
theorem V11_at (c : Dev nD) (k n : Fin 1024) :
    (show FVec Ideal S1024x1024 .bf16 from V m c main_v11) (ix2 k n)
      = (show FVec Ideal S1024x1024 .f32 from m ((c : Thread nD τ).loc main_arg3)) (ix2 k n) := by
  simp only [V, hostOps0, hostOps0_1, hostOps0_2, hostOps0_3, hostOps0_4, hostOps0_5, hostOps0_6, List.flatten_cons, List.flatten_nil, List.append_nil, List.cons_append,
    List.nil_append]
  entry_read
  pointwise

/-- The convolution's bias, as a row. -/
theorem V21_at (c : Dev nD) (n : Fin 256) :
    (show FVec Ideal S1x256 .f32 from V m c main_v21) (ix2 0 n)
      = (show FVec Ideal S256 .f32 from m ((c : Thread nD τ).loc main_arg7)) (ix1 n) := by
  simp only [V, hostOps0, hostOps0_1, hostOps0_2, hostOps0_3, hostOps0_4, hostOps0_5, hostOps0_6, List.flatten_cons, List.flatten_nil, List.append_nil, List.cons_append,
    List.nil_append]
  entry_read
  pointwise

/-- The gating gain, as a row. -/
theorem V22_at (c : Dev nD) (n : Fin 256) :
    (show FVec Ideal S1x256 .f32 from V m c main_v22) (ix2 0 n)
      = (show FVec Ideal S256 .f32 from m ((c : Thread nD τ).loc main_arg8)) (ix1 n) := by
  simp only [V, hostOps0, hostOps0_1, hostOps0_2, hostOps0_3, hostOps0_4, hostOps0_5, hostOps0_6, List.flatten_cons, List.flatten_nil, List.append_nil, List.cons_append,
    List.nil_append]
  entry_read
  pointwise

/-- The gating matrices. -/
theorem V23_at (c : Dev nD) (h : Fin 4) (p q : Fin 128) :
    (show FVec Ideal S4x128x128 .bf16 from V m c main_v23) (ix3 h p q)
      = (show FVec Ideal S4x128x128 .f32 from m ((c : Thread nD τ).loc main_arg9)) (ix3 h p q) := by
  simp only [V, hostOps0, hostOps0_1, hostOps0_2, hostOps0_3, hostOps0_4, hostOps0_5, hostOps0_6, List.flatten_cons, List.flatten_nil, List.append_nil, List.cons_append,
    List.nil_append]
  entry_read
  pointwise

/-- The last norm's gain, as a row. -/
theorem V27_at (c : Dev nD) (k : Fin 1024) :
    (show FVec Ideal S1x1024 .f32 from V m c main_v27) (ix2 0 k)
      = (show FVec Ideal S1024 .f32 from m ((c : Thread nD τ).loc main_arg11)) (ix1 k) := by
  simp only [V, hostOps0, hostOps0_1, hostOps0_2, hostOps0_3, hostOps0_4, hostOps0_5, hostOps0_6, List.flatten_cons, List.flatten_nil, List.append_nil, List.cons_append,
    List.nil_append]
  entry_read
  pointwise

/-- The last norm's shift, as a row. -/
theorem V28_at (c : Dev nD) (k : Fin 1024) :
    (show FVec Ideal S1x1024 .f32 from V m c main_v28) (ix2 0 k)
      = (show FVec Ideal S1024 .f32 from m ((c : Thread nD τ).loc main_arg12)) (ix1 k) := by
  simp only [V, hostOps0, hostOps0_1, hostOps0_2, hostOps0_3, hostOps0_4, hostOps0_5, hostOps0_6, List.flatten_cons, List.flatten_nil, List.append_nil, List.cons_append,
    List.nil_append]
  entry_read
  pointwise

end Cert.MixHost
-- ==== Proof.MixBlock.lean ====
/-
  The mixer kernel's blocks at a grid point, at coordinates, from its argument arrays.
-/
module

public import proofs.«01_k».proof.Proof.MixHost

@[expose] public section

set_option maxRecDepth 16384

noncomputable section

open Idealize.ShloMosaic Idealize.ShloMosaic.TcCoe Idealize.SL.Sem
open Idealize.ShloMosaic.Pipeline (Dat)

namespace Cert.MixBlock

open Cert.KernelIdeal Cert.KernelIdeal.Gen Cert.Layer Cert.MixHost

variable (m : (ℓ : Loc nD τ sig) → Buf (Elt Ideal) ℓ) (c : Dev nD)

/-! ## The argument arrays -/

abbrev A0 : FVec Ideal S32x256x1024 .f32 := m ((c : Thread nD τ).loc main_arg0)
abbrev A1 : FVec Ideal S3x6x1024 .f32 := m ((c : Thread nD τ).loc main_arg1)
abbrev A2 : FVec Ideal S1024x2048 .f32 := m ((c : Thread nD τ).loc main_arg2)
abbrev A3 : FVec Ideal S1024x1024 .f32 := m ((c : Thread nD τ).loc main_arg3)
abbrev A4 : FVec Ideal S64 .f32 := m ((c : Thread nD τ).loc main_arg4)
abbrev A5 : FVec Ideal S64 .f32 := m ((c : Thread nD τ).loc main_arg5)
abbrev A6 : FVec Ideal S3x256 .f32 := m ((c : Thread nD τ).loc main_arg6)
abbrev A7 : FVec Ideal S256 .f32 := m ((c : Thread nD τ).loc main_arg7)
abbrev A8 : FVec Ideal S256 .f32 := m ((c : Thread nD τ).loc main_arg8)
abbrev A9 : FVec Ideal S4x128x128 .f32 := m ((c : Thread nD τ).loc main_arg9)
abbrev A10 : FVec Ideal S4x128 .f32 := m ((c : Thread nD τ).loc main_arg10)
abbrev A11 : FVec Ideal S1024 .f32 := m ((c : Thread nD τ).loc main_arg11)
abbrev A12 : FVec Ideal S1024 .f32 := m ((c : Thread nD τ).loc main_arg12)

/-- Where each window's block lies at a grid point. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ t.val < 32 :=
  (by decide +kernel : ∀ t : Fin grid0.N, _)

theorem lt (t : Fin cfg0.N) : t.val < 32 := (idx t).2.2.2.2.2.2.2.2.2.2.2.2.2.2.2.2.2

variable (t : Fin cfg0.N)

theorem blk0_at (r : Fin 256) (k : Fin 1024) :
    (show FVec Ideal S256x1024 .f32 from iblk m c 0 t) (ix2 r k) = A0 m c (ix3 ⟨t.val, lt t⟩ r k) := by
  refine Eq.trans ?_ (V9_at m c ⟨t.val, lt t⟩ r k)
  blk_ext [iblk, idx t]

theorem blk1_at (q : Fin 6) (k : Fin 1024) :
    (show FVec Ideal S1x8x1024 .f32 from iblk m c 1 t) (ix3 0 ⟨q.val, by omega⟩ k) = A1 m c (ix3 0 q k) := by
  refine Eq.trans ?_ (V0_at m c 0 q k)
  blk_ext [iblk, idx t]

theorem blk2_at (k : Fin 1024) (n : Fin 2048) :
    (show FVec Ideal S1024x2048 .bf16 from iblk m c 2 t) (ix2 k n) = A2 m c (ix2 k n) := by
  refine Eq.trans ?_ (V10_at m c k n)
  blk_ext [iblk, idx t]

theorem blk3_at (k n : Fin 1024) :
    (show FVec Ideal S1024x1024 .bf16 from iblk m c 3 t) (ix2 k n) = A3 m c (ix2 k n) := by
  refine Eq.trans ?_ (V11_at m c k n)
  blk_ext [iblk, idx t]

theorem blk4_at (j : Fin 8) (d : Fin 64) :
    (show FVec Ideal S1x512 .f32 from iblk m c 4 t) (ix2 0 ⟨j.val * 64 + d.val, by omega⟩) = A4 m c (ix1 d) := by
  refine Eq.trans ?_ (V15_at m c j d)
  blk_ext [iblk, idx t]

theorem blk5_at (j : Fin 2) (d : Fin 64) :
    (show FVec Ideal S1x128 .f32 from iblk m c 5 t) (ix2 0 ⟨j.val * 64 + d.val, by omega⟩) = A5 m c (ix1 d) := by
  refine Eq.trans ?_ (V19_at m c j d)
  blk_ext [iblk, idx t]

theorem blk6_at (a b : Fin 512) :
    (show FVec Ideal S512x512 .bf16 from iblk m c 6 t) (ix2 a b) = if a.val / 64 = b.val / 64 then 1 else 0 := by
  refine Eq.trans ?_ (V8_at m c a b)
  blk_ext [iblk, idx t]

theorem blk7_at (i : Fin 3) (n : Fin 256) :
    (show FVec Ideal S8x256 .f32 from iblk m c 7 t) (ix2 ⟨i.val, by omega⟩ n) = A6 m c (ix2 i n) := by
  refine Eq.trans ?_ (V20_at m c i n)
  blk_ext [iblk, idx t]

theorem blk8_at (n : Fin 256) :
    (show FVec Ideal S1x256 .f32 from iblk m c 8 t) (ix2 0 n) = A7 m c (ix1 n) := by
  refine Eq.trans ?_ (V21_at m c n)
  blk_ext [iblk, idx t]

theorem blk9_at (n : Fin 256) :
    (show FVec Ideal S1x256 .f32 from iblk m c 9 t) (ix2 0 n) = A8 m c (ix1 n) := by
  refine Eq.trans ?_ (V22_at m c n)
  blk_ext [iblk, idx t]

theorem blk10_at (h : Fin 4) (p q : Fin 128) :
    (show FVec Ideal S4x128x128 .bf16 from iblk m c 10 t) (ix3 h p q) = A9 m c (ix3 h p q) := by
  refine Eq.trans ?_ (V23_at m c h p q)
  blk_ext [iblk, idx t]

theorem blk11_at (p : Fin 128) (h : Fin 4) (e : Fin 64) :
    (show FVec Ideal S128x256 .f32 from iblk m c 11 t) (ix2 p ⟨h.val * 64 + e.val, by omega⟩) = A10 m c (ix2 h p) := by
  refine Eq.trans ?_ (V26_at m c p h e)
  blk_ext [iblk, idx t]

theorem blk12_at (k : Fin 1024) :
    (show FVec Ideal S1x1024 .f32 from iblk m c 12 t) (ix2 0 k) = A11 m c (ix1 k) := by
  refine Eq.trans ?_ (V27_at m c k)
  blk_ext [iblk, idx t]

theorem blk13_at (k : Fin 1024) :
    (show FVec Ideal S1x1024 .f32 from iblk m c 13 t) (ix2 0 k) = A12 m c (ix1 k) := by
  refine Eq.trans ?_ (V28_at m c k)
  blk_ext [iblk, idx t]

end Cert.MixBlock
-- ==== Proof.MixRef.lean ====
/-
  The mixer reference read at coordinates.
-/
module

public import proofs.«01_k».proof.Proof.MixFin
public import proofs.«01_k».proof.Proof.Gen.ReferenceIdeal.Read

@[expose] public section

set_option maxRecDepth 16384

noncomputable section

open Idealize.ShloMosaic Idealize.ShloMosaic.TcCoe Idealize.SL.Sem

namespace Cert.MixRef

open Cert.ReferenceIdeal Cert.ReferenceIdeal.Gen Cert.ReferenceIdeal.Read Cert.Layer Cert.Mix

variable (x0 : FVec Ideal S32x256x1024 .f32) (x1 : FVec Ideal S3x6x1024 .f32) (x2 : FVec Ideal S1024x2048 .f32)
  (x3 : FVec Ideal S1024x1024 .f32) (x4 x5 : FVec Ideal S64 .f32) (x6 : FVec Ideal S3x256 .f32) (x7 x8 : FVec Ideal S256 .f32)
  (x9 : FVec Ideal S4x128x128 .f32) (x10 : FVec Ideal S4x128 .f32) (x11 x12 : FVec Ideal S1024 .f32)

/-- The projected rows of a sequence, from the layer's arrays. -/
def ZR (b : Fin 32) : Fin 256 → Fin 2048 → EReal :=
  proj (fun r k => x0 (ix3 b r k)) (fun k => x1 (ix3 0 1 k)) (fun k => x1 (ix3 0 0 k)) (fun k n => x2 (ix2 k n))

/-- The modulated row. -/
theorem v29_at (b : Fin 32) (r : Fin 256) (k : Fin 1024) :
    val_main_v29 (F := Ideal) x0 x1 (ix3 b r k)
      = modu (fun k => x0 (ix3 b r k)) (fun k => x1 (ix3 0 1 k)) (fun k => x1 (ix3 0 0 k)) k := by
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6, val_main_v3,
    val_main_v2, val_main_v1, val_main_v0, val_main_cst_4, val_main_cst_3, val_main_cst_2, val_main_cst_1, val_main_cst_0,
    val_main_cst,
    modu, std, mean]

/-- The projected rows. -/
theorem v30_at (b : Fin 32) (r : Fin 256) (n : Fin 2048) : val_main_v30 (F := Ideal) x0 x1 x2 (ix3 b r n) = ZR x0 x1 x2 b r n := by
  pointwise [val_main_v30, v29_at, ZR, proj]

/-- The queries. -/
theorem v52_at (b : Fin 32) (r : Fin 256) (g : Fin 2) (h : Fin 4) (d : Fin 64) :
    val_main_v52 (F := Ideal) x0 x1 x2 x4 (ix5 b r g h d) = qh (ZR x0 x1 x2 b) (fun d => x4 (ix1 d)) r g h d := by
  pointwise [val_main_v52, val_main_v51, val_main_v50, val_main_v49, val_main_v48, val_main_v47, val_main_v46, val_main_v45,
    val_main_v44, val_main_v43, val_main_v42, val_main_v41, val_main_v40, val_main_v39, val_main_v31, val_main_cst_5,
    val_main_cst_6, val_main_cst_7, v30_at, qh, rms64, m64]
  have e : ∀ x : Fin 64, (⟨g.val * 256 + h.val * 64 + x.val, by omega⟩ : Fin 2048) = ⟨(g.val * 4 + h.val) * 64 + x.val, by omega⟩ :=
    fun x => Fin.ext (by show g.val * 256 + h.val * 64 + x.val = (g.val * 4 + h.val) * 64 + x.val; omega)
  simp only [e]

/-- The keys. -/
theorem v66_at (b : Fin 32) (r : Fin 256) (g : Fin 2) (d : Fin 64) :
    val_main_v66 (F := Ideal) x0 x1 x2 x5 (ix4 b r g d) = kh (ZR x0 x1 x2 b) (fun d => x5 (ix1 d)) r g d := by
  pointwise [val_main_v66, val_main_v65, val_main_v64, val_main_v63, val_main_v62, val_main_v61, val_main_v60, val_main_v59,
    val_main_v58, val_main_v57, val_main_v56, val_main_v55, val_main_v54, val_main_v53, val_main_v32, val_main_cst_8,
    val_main_cst_9, val_main_cst_10, v30_at, kh, rms64, m64]

/-- The values. -/
theorem v67_at (b : Fin 32) (r : Fin 256) (g : Fin 2) (d : Fin 64) :
    val_main_v67 (F := Ideal) x0 x1 x2 (ix4 b r g d) = vh (ZR x0 x1 x2 b) r g d := by
  pointwise [val_main_v67, val_main_v33, v30_at, vh]

/-- The scores. -/
theorem v71_at (b : Fin 32) (g : Fin 2) (h : Fin 4) (r s : Fin 256) :
    val_main_v71 (F := Ideal) x0 x1 x2 x4 x5 (ix5 b g h r s)
      = score (qh (ZR x0 x1 x2 b) (fun d => x4 (ix1 d)) r g h) (fun s => kh (ZR x0 x1 x2 b) (fun d => x5 (ix1 d)) s g) s := by
  pointwise [val_main_v71, val_main_v70, val_main_v69, val_main_v68, val_main_cst_11, v66_at, v52_at, score]

/-- A row's greatest score. -/
theorem v72_at (b : Fin 32) (g : Fin 2) (h : Fin 4) (r : Fin 256) :
    val_main_v72 (F := Ideal) x0 x1 x2 x4 x5 (ix4 b g h r)
      = top (score (qh (ZR x0 x1 x2 b) (fun d => x4 (ix1 d)) r g h) (fun s => kh (ZR x0 x1 x2 b) (fun d => x5 (ix1 d)) s g)) := by
  pointwise [val_main_v72, val_main_cst_12, v71_at]
  rfl

/-- The greatest score is not below the least value of all. -/
theorem max_top (s : Fin 256 → EReal) : max (Ideal.ofBits .f32 0xFF800000#32) (top s) = top s := by
  rw [bot]; exact max_eq_right bot_le

/-- A number for each row, not below the least value of all, set beside each of the row's scores. -/
theorem beside_at (Y : FVec Ideal S32x2x4x256 .f32) (b : Fin 32) (g : Fin 2) (h : Fin 4) (r s : Fin 256) :
    broadcastInDim S32x2x4x256x256 ![0, 1, 2, 3, 4] bcast_S32x2x4x256x1_S32x2x4x256x256_0_1_2_3_4
        (broadcastInDim S32x2x4x256x1 ![0, 1, 2, 3] bcast_S32x2x4x256_S32x2x4x256x1_0_1_2_3
          (maximumf (val_main_v73 (F := Ideal)) Y)) (ix5 b g h r s)
      = max (Ideal.ofBits .f32 0xFF800000#32) (Y (ix4 b g h r)) := by
  pointwise [val_main_v73, val_main_cst_13]

/-- A row's greatest score beside each of its scores. -/
theorem v76_at (b : Fin 32) (g : Fin 2) (h : Fin 4) (r s : Fin 256) :
    val_main_v76 (F := Ideal) x0 x1 x2 x4 x5 (ix5 b g h r s)
      = top (score (qh (ZR x0 x1 x2 b) (fun d => x4 (ix1 d)) r g h) (fun s => kh (ZR x0 x1 x2 b) (fun d => x5 (ix1 d)) s g)) := by
  rw [val_main_v76, val_main_v75, val_main_v74, beside_at, v72_at, max_top]

/-- The weights before they are normalised. -/
theorem v78_at (b : Fin 32) (g : Fin 2) (h : Fin 4) (r s : Fin 256) :
    val_main_v78 (F := Ideal) x0 x1 x2 x4 x5 (ix5 b g h r s)
      = wt (score (qh (ZR x0 x1 x2 b) (fun d => x4 (ix1 d)) r g h) (fun s => kh (ZR x0 x1 x2 b) (fun d => x5 (ix1 d)) s g)) s := by
  pointwise [val_main_v78, val_main_v77, v76_at, v71_at, wt]

/-- Attention's result. -/
theorem v84_at (b : Fin 32) (r : Fin 256) (g : Fin 2) (h : Fin 4) (d : Fin 64) :
    val_main_v84 (F := Ideal) x0 x1 x2 x4 x5 (ix5 b r g h d)
      = attH (ZR x0 x1 x2 b) (fun d => x4 (ix1 d)) (fun d => x5 (ix1 d)) r g h d := by
  pointwise [val_main_v84, val_main_v83, val_main_v82, val_main_v81, val_main_v80, val_main_v79, val_main_cst_14, v78_at, v67_at, attH, att]

/-- The integer zero is the real zero. -/
theorem sitofp_zero : (FloatOps.sitofp (F := Ideal) .f32 0#32 : EReal) = 0 := by
  show ((((0#32 : BitVec 32).toInt : ℤ) : ℝ) : EReal) = 0
  simp

/-- The gated convolution. -/
theorem v111_at (b : Fin 32) (r n : Fin 256) :
    val_main_v111 (F := Ideal) x0 x1 x2 x6 x7 (ix3 b r n)
      = conv (ZR x0 x1 x2 b) (fun i n => x6 (ix2 i n)) (fun n => x7 (ix1 n)) r n := by
  pointwise [val_main_v111, val_main_v110, val_main_v109, val_main_v108, val_main_v107, val_main_v106, val_main_v105, val_main_v104,
    val_main_v103, val_main_v102, val_main_v101, val_main_v100, val_main_v99, val_main_v98, val_main_v97, val_main_v96,
    val_main_v95, val_main_v94, val_main_v93, val_main_v92, val_main_v91, val_main_v90, val_main_v89, val_main_v88,
    val_main_v87, val_main_v86, val_main_v36, val_main_v35, val_main_v34, val_main_call0_v0, val_main_c, v30_at, conv, cin, sitofp_zero]
  have hu : (if h : 1 ≤ r.val ∧ r.val - 1 < 256 then
        ZR x0 x1 x2 b ⟨r.val - 1, by omega⟩ ⟨1280 + n.val, by omega⟩ * ZR x0 x1 x2 b ⟨r.val - 1, by omega⟩ ⟨768 + n.val, by omega⟩ else 0)
      = if h : 0 < r.val then
        ZR x0 x1 x2 b ⟨r.val - 1, by omega⟩ ⟨1280 + n.val, by omega⟩ * ZR x0 x1 x2 b ⟨r.val - 1, by omega⟩ ⟨768 + n.val, by omega⟩ else 0 := by
    by_cases h : 0 < r.val
    · rw [dif_pos h, dif_pos (by omega)]
    · rw [dif_neg h, dif_neg (by omega)]
  have hd : (if h : 1 ≤ 2 + r.val ∧ 2 + r.val - 1 < 256 then
        ZR x0 x1 x2 b ⟨2 + r.val - 1, by omega⟩ ⟨1280 + n.val, by omega⟩ * ZR x0 x1 x2 b ⟨2 + r.val - 1, by omega⟩ ⟨768 + n.val, by omega⟩ else 0)
      = if h : r.val < 255 then
        ZR x0 x1 x2 b ⟨r.val + 1, by omega⟩ ⟨1280 + n.val, by omega⟩ * ZR x0 x1 x2 b ⟨r.val + 1, by omega⟩ ⟨768 + n.val, by omega⟩ else 0 := by
    by_cases h : r.val < 255
    · have e : (⟨2 + r.val - 1, by omega⟩ : Fin 256) = ⟨r.val + 1, by omega⟩ := Fin.ext (by show 2 + r.val - 1 = r.val + 1; omega)
      rw [dif_pos h, dif_pos (by omega), e]
    · rw [dif_neg h, dif_neg (by omega)]
  rw [hu, hd]

/-- The normalised gating values. -/
theorem v132_at (b : Fin 32) (c : Fin 2) (q : Fin 128) (h : Fin 4) (e : Fin 64) :
    val_main_v132 (F := Ideal) x0 x1 x2 x8 (ix5 b c q h e)
      = svn (ZR x0 x1 x2 b) (fun n => x8 (ix1 n)) c q h e := by
  pointwise [val_main_v132, val_main_v131, val_main_v130, val_main_v129, val_main_v128, val_main_v127, val_main_v126, val_main_v125,
    val_main_v124, val_main_v123, val_main_v122, val_main_v121, val_main_v120, val_main_v119, val_main_v118, val_main_v117,
    val_main_v116, val_main_v115, val_main_v114, val_main_v113, val_main_v112, val_main_v38, val_main_cst_15,
    val_main_cst_16, val_main_cst_17, val_main_cst_18, val_main_cst_19, v30_at, svn, std64, m64]

/-- The gated values of a chunk. -/
theorem v139_at (b : Fin 32) (c : Fin 2) (p : Fin 128) (h : Fin 4) (e : Fin 64) :
    val_main_v139 (F := Ideal) x0 x1 x2 x8 x9 x10 (ix5 b c p h e)
      = ∑ q, svn (ZR x0 x1 x2 b) (fun n => x8 (ix1 n)) c q h e * x9 (ix3 h p q) + x10 (ix2 h p) := by
  pointwise [val_main_v139, val_main_v138, val_main_v137, val_main_v136, val_main_v135, val_main_v134, val_main_v133, v132_at]

/-- The spatial gating unit. -/
theorem v141_at (b : Fin 32) (r : Fin 256) (n : Fin 256) :
    val_main_v141 (F := Ideal) x0 x1 x2 x8 x9 x10 (ix3 b r n)
      = sgu (ZR x0 x1 x2 b) (fun n => x8 (ix1 n)) (fun h p q => x9 (ix3 h p q)) (fun h p => x10 (ix2 h p))
          ⟨r.val / 128, by omega⟩ ⟨r.val % 128, by omega⟩ ⟨n.val / 64, by omega⟩ ⟨n.val % 64, by omega⟩ := by
  pointwise [val_main_v141, val_main_v140, val_main_v37, v139_at, v30_at, sgu]
  have e1 : (⟨r.val / 128 * 128 + r.val % 128, by omega⟩ : Fin 256) = r := Fin.ext (Nat.div_add_mod' r.val 128)
  have e2 : (⟨1536 + (n.val / 64 * 64 + n.val % 64), by omega⟩ : Fin 2048) = ⟨1536 + n.val, by omega⟩ :=
    Fin.ext (congrArg (1536 + ·) (Nat.div_add_mod' n.val 64))
  rw [e1, e2]

/-- The mixed row. -/
theorem v142_at (b : Fin 32) (r : Fin 256) (n : Fin 1024) :
    val_main_v142 (F := Ideal) x0 x1 x2 x4 x5 x6 x7 x8 x9 x10 (ix3 b r n)
      = mixv (ZR x0 x1 x2 b) (fun d => x4 (ix1 d)) (fun d => x5 (ix1 d)) (fun i n => x6 (ix2 i n)) (fun n => x7 (ix1 n))
          (fun n => x8 (ix1 n)) (fun h p q => x9 (ix3 h p q)) (fun h p => x10 (ix2 h p)) r n := by
  pointwise [val_main_v142, val_main_v85, v141_at, v111_at, v84_at, mixv]
  by_cases h : n.val < 512
  · rw [dif_pos h, dif_pos h]
  · by_cases h' : n.val < 768
    · rw [dif_neg h, dif_neg h, dif_pos (by omega), dif_pos h']
    · have e : n.val - 512 - 256 = n.val - 768 := by omega
      rw [dif_neg h, dif_neg h, dif_neg (by omega), dif_neg h']
      simp only [e]

/-- The residual row. -/
theorem v149_at (b : Fin 32) (r : Fin 256) (j : Fin 1024) :
    val_main_v149 (F := Ideal) x0 x1 x2 x3 x4 x5 x6 x7 x8 x9 x10 (ix3 b r j)
      = res (fun k => x0 (ix3 b r k)) (fun k => x1 (ix3 0 2 k))
          (mixv (ZR x0 x1 x2 b) (fun d => x4 (ix1 d)) (fun d => x5 (ix1 d)) (fun i n => x6 (ix2 i n)) (fun n => x7 (ix1 n))
            (fun n => x8 (ix1 n)) (fun h p q => x9 (ix3 h p q)) (fun h p => x10 (ix2 h p)) r)
          (fun k j => x3 (ix2 k j)) j := by
  pointwise [val_main_v149, val_main_v148, val_main_v147, val_main_v146, val_main_v145, val_main_v144, val_main_v143, val_main_v5,
    val_main_v4, val_main_cst_20, v142_at, res]

/-- The row of a token of a sequence. -/
theorem v171_at (b : Fin 32) (r : Fin 256) (j : Fin 1024) :
    val_main_v171 (F := Ideal) x0 x1 x2 x3 x4 x5 x6 x7 x8 x9 x10 x11 x12 (ix3 b r j)
      = out (fun k => x0 (ix3 b r k)) (fun k => x1 (ix3 0 2 k))
          (mixv (ZR x0 x1 x2 b) (fun d => x4 (ix1 d)) (fun d => x5 (ix1 d)) (fun i n => x6 (ix2 i n)) (fun n => x7 (ix1 n))
            (fun n => x8 (ix1 n)) (fun h p q => x9 (ix3 h p q)) (fun h p => x10 (ix2 h p)) r)
          (fun k j => x3 (ix2 k j)) (fun k => x11 (ix1 k)) (fun k => x12 (ix1 k)) j := by
  pointwise [val_main_v171, val_main_v170, val_main_v169, val_main_v168, val_main_v167, val_main_v166, val_main_v165, val_main_v164,
    val_main_v163, val_main_v162, val_main_v161, val_main_v160, val_main_v159, val_main_v158, val_main_v157, val_main_v156,
    val_main_v155, val_main_v154, val_main_v153, val_main_v152, val_main_v151, val_main_v150, val_main_cst_21,
    val_main_cst_22, val_main_cst_23, val_main_cst_24, val_main_cst_25, v149_at, out, std, mean]

/-- The first result at a context token. -/
theorem v173_at (t : Fin 8192) (j : Fin 1024) :
    val_main_v173 (F := Ideal) x0 x1 x2 x3 x4 x5 x6 x7 x8 x9 x10 x11 x12 (ix2 ⟨t.val, by omega⟩ j)
      = val_main_v171 (F := Ideal) x0 x1 x2 x3 x4 x5 x6 x7 x8 x9 x10 x11 x12 (ix3 ⟨t.val / 256, by omega⟩ ⟨t.val % 256, by omega⟩ j) := by
  pointwise [val_main_v173, val_main_v172, val_main_call1_v0, val_main_c_26]

/-- The second result: the keys. -/
theorem v174_at (t : Fin 8192) (j : Fin 128) :
    val_main_v174 (F := Ideal) x0 x1 x2 x5 (ix2 t j)
      = kh (ZR x0 x1 x2 ⟨t.val / 256, by omega⟩) (fun d => x5 (ix1 d)) ⟨t.val % 256, by omega⟩ ⟨j.val / 64, by omega⟩ ⟨j.val % 64, by omega⟩ := by
  pointwise [val_main_v174, v66_at]

/-- The third result: the values. -/
theorem v175_at (t : Fin 8192) (j : Fin 128) :
    val_main_v175 (F := Ideal) x0 x1 x2 (ix2 t j)
      = vh (ZR x0 x1 x2 ⟨t.val / 256, by omega⟩) ⟨t.val % 256, by omega⟩ ⟨j.val / 64, by omega⟩ ⟨j.val % 64, by omega⟩ := by
  pointwise [val_main_v175, v67_at]

end Cert.MixRef
-- ==== Proof.MixOut.lean ====
/-
  What the mixer kernel leaves in its three result blocks at a grid point.
-/
module

public import proofs.«01_k».proof.Proof.MixBlock
public import proofs.«01_k».proof.Proof.MixRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixOut

open Cert.KernelIdeal Cert.KernelIdeal.Gen Cert.Layer Cert.Mix Cert.MixPay Cert.MixBlock

/-! ## The mixed row's columns, from a piece's coordinates -/

section Cells

variable (Z : Fin 256 → Fin 2048 → EReal) (hZ : ∀ r n, Rl (Z r n)) (gq gk : Fin 64 → EReal) (hgq : ∀ d, Rl (gq d))
  (hgk : ∀ d, Rl (gk d)) (cw : Fin 3 → Fin 256 → EReal) (cb sg : Fin 256 → EReal) (sw : Fin 4 → Fin 128 → Fin 128 → EReal)
  (sb : Fin 4 → Fin 128 → EReal)

/-- A column of attention: pair `p` of heads over 128 lanes. -/
theorem att_cell (hZ : ∀ r n, Rl (Z r n)) (hgq : ∀ d, Rl (gq d)) (hgk : ∀ d, Rl (gk d))
    (p : Fin 4) (r : Fin 256) (q : Fin 128 → EReal) (k0 v0 k1 v1 : Fin 256 → Fin 128 → EReal)
    (hq : ∀ (i : Fin 2) (d : Fin 64), q ⟨i.val * 64 + d.val, by omega⟩
      = qh Z gq r ⟨p.val / 2, by omega⟩ ⟨p.val % 2 * 2 + i.val, by omega⟩ d * Ideal.ofBits .f32 0x3E000000#32)
    (hk0 : ∀ s l, k0 s l = lowHalf (kh Z gk s ⟨p.val / 2, by omega⟩) l)
    (hv0 : ∀ s l, v0 s l = lowHalf (vh Z s ⟨p.val / 2, by omega⟩) l)
    (hk1 : ∀ s l, k1 s l = highHalf (kh Z gk s ⟨p.val / 2, by omega⟩) l)
    (hv1 : ∀ s l, v1 s l = highHalf (vh Z s ⟨p.val / 2, by omega⟩) l)
    (c : Fin 128) (n : Fin 1024) (hn : n.val = p.val * 128 + c.val) :
    pairAt q k0 v0 k1 v1 c = mixv Z gq gk cw cb sg sw sb r n := by
  obtain rfl : k0 = fun s => lowHalf (kh Z gk s ⟨p.val / 2, by omega⟩) := funext fun s => funext fun l => hk0 s l
  obtain rfl : v0 = fun s => lowHalf (vh Z s ⟨p.val / 2, by omega⟩) := funext fun s => funext fun l => hv0 s l
  obtain rfl : k1 = fun s => highHalf (kh Z gk s ⟨p.val / 2, by omega⟩) := funext fun s => funext fun l => hk1 s l
  obtain rfl : v1 = fun s => highHalf (vh Z s ⟨p.val / 2, by omega⟩) := funext fun s => funext fun l => hv1 s l
  obtain ⟨i, d, hc⟩ : ∃ (i : Fin 2) (d : Fin 64), c = ⟨i.val * 64 + d.val, by omega⟩ :=
    ⟨⟨c.val / 64, by omega⟩, ⟨c.val % 64, by omega⟩, Fin.ext (by simp; omega)⟩
  have hv : c.val = i.val * 64 + d.val := congrArg Fin.val hc
  rw [hc, pair_eq (fun i => qh Z gq r ⟨p.val / 2, by omega⟩ ⟨p.val % 2 * 2 + i.val, by omega⟩)
    (fun s => kh Z gk s ⟨p.val / 2, by omega⟩) (fun s => vh Z s ⟨p.val / 2, by omega⟩)
    (fun i d => Rl.rms64 (fun e => hZ _ _) (hgq _) _) (fun s d => Rl.rms64 (fun e => hZ _ _) (hgk _) _) (fun s d => hZ _ _) q hq i d]
  unfold mixv
  rw [dif_pos (show n.val < 512 by omega)]
  unfold attH
  have e1 : (⟨n.val / 256, by omega⟩ : Fin 2) = ⟨p.val / 2, by omega⟩ := Fin.ext (by simp; omega)
  have e2 : (⟨n.val / 64 % 4, by omega⟩ : Fin 4) = ⟨p.val % 2 * 2 + i.val, by omega⟩ := Fin.ext (by simp; omega)
  have e3 : (⟨n.val % 64, by omega⟩ : Fin 64) = d := Fin.ext (by simp; omega)
  rw [e1, e2, e3]

/-- A column of the convolution. -/
theorem conv_cell (r : Fin 256) (k : Fin 256) (n : Fin 1024) (hn : n.val = 512 + k.val) :
    conv Z cw cb r k = mixv Z gq gk cw cb sg sw sb r n := by
  unfold mixv
  rw [dif_neg (by omega), dif_pos (by omega)]
  exact congrArg _ (Fin.ext (by simp; omega))

/-- A column of the spatial gating unit. -/
theorem sgu_cell (c : Fin 2) (p : Fin 128) (h : Fin 4) (e : Fin 64) (r : Fin 256) (n : Fin 1024) (hr : r.val = c.val * 128 + p.val)
    (hn : n.val = 768 + (h.val * 64 + e.val)) :
    sgu Z sg sw sb c p h e = mixv Z gq gk cw cb sg sw sb r n := by
  unfold mixv
  rw [dif_neg (by omega), dif_neg (by omega)]
  have e1 : (⟨r.val / 128, by omega⟩ : Fin 2) = c := Fin.ext (by simp; omega)
  have e2 : (⟨r.val % 128, by omega⟩ : Fin 128) = p := Fin.ext (by simp; omega)
  have e3 : (⟨(n.val - 768) / 64, by omega⟩ : Fin 4) = h := Fin.ext (by simp; omega)
  have e4 : (⟨(n.val - 768) % 64, by omega⟩ : Fin 64) = e := Fin.ext (by simp; omega)
  rw [e1, e2, e3, e4]

/-- A column of the spatial gating unit, from the arrays one chunk is computed from. -/
theorem sgu_piece (cc : Fin 2) (v : FVec Ideal S128x256 .bf16) (b su : FVec Ideal S128x256 .f32)
    (hv : ∀ (q : Fin 128) (h : Fin 4) (e : Fin 64), v (ix2 q ⟨h.val * 64 + e.val, by omega⟩) = svn Z sg cc q h e)
    (hs : ∀ (q : Fin 128) (h : Fin 4) (e : Fin 64), su (ix2 q ⟨h.val * 64 + e.val, by omega⟩)
      = Z ⟨cc.val * 128 + q.val, by omega⟩ ⟨1536 + (h.val * 64 + e.val), by omega⟩)
    (hb : ∀ (q : Fin 128) (h : Fin 4) (e : Fin 64), b (ix2 q ⟨h.val * 64 + e.val, by omega⟩) = sb h q)
    (p : Fin 128) (h : Fin 4) (e : Fin 64) (r : Fin 256) (n : Fin 1024) (hr : r.val = cc.val * 128 + p.val)
    (hn : n.val = 768 + (h.val * 64 + e.val)) :
    su (ix2 p ⟨h.val * 64 + e.val, by omega⟩) * (∑ q, v (ix2 q ⟨h.val * 64 + e.val, by omega⟩) * sw h p q
        + b (ix2 p ⟨h.val * 64 + e.val, by omega⟩))
      = mixv Z gq gk cw cb sg sw sb r n := by
  rw [← sgu_cell Z gq gk cw cb sg sw sb cc p h e r n hr hn, hs, hb]
  unfold sgu
  simp only [hv]

theorem sgu_piece47 (cc : Fin 2) (v : FVec Ideal S128x256 .bf16) (b su : FVec Ideal S128x256 .f32)
    (w0 w1 w2 w3 : FVec Ideal S1x128x128 .bf16) (h0 : ∀ p q, w0 (ix3 0 p q) = sw 0 p q) (h1 : ∀ p q, w1 (ix3 0 p q) = sw 1 p q)
    (h2 : ∀ p q, w2 (ix3 0 p q) = sw 2 p q) (h3 : ∀ p q, w3 (ix3 0 p q) = sw 3 p q)
    (hv : ∀ (q : Fin 128) (h : Fin 4) (e : Fin 64), v (ix2 q ⟨h.val * 64 + e.val, by omega⟩) = svn Z sg cc q h e)
    (hs : ∀ (q : Fin 128) (h : Fin 4) (e : Fin 64), su (ix2 q ⟨h.val * 64 + e.val, by omega⟩)
      = Z ⟨cc.val * 128 + q.val, by omega⟩ ⟨1536 + (h.val * 64 + e.val), by omega⟩)
    (hb : ∀ (q : Fin 128) (h : Fin 4) (e : Fin 64), b (ix2 q ⟨h.val * 64 + e.val, by omega⟩) = sb h q)
    (p : Fin 128) (l : Fin 256) (r : Fin 256) (n : Fin 1024) (hr : r.val = cc.val * 128 + p.val) (hn : n.val = 768 + l.val) :
    k0_pay47 (F := Ideal) v (iota .tc S128x256 32 [1] iota_S128x256_d1_w32) (k0_pay45 (F := Ideal) v b w0 w1) k0_pay46 w2 w3 su (ix2 p l)
      = mixv Z gq gk cw cb sg sw sb r n := by
  obtain ⟨h, e, hl⟩ : ∃ (h : Fin 4) (e : Fin 64), l = ⟨h.val * 64 + e.val, by omega⟩ :=
    ⟨⟨l.val / 64, by omega⟩, ⟨l.val % 64, by omega⟩, Fin.ext (by simp; omega)⟩
  have hlv : l.val = h.val * 64 + e.val := congrArg Fin.val hl
  rw [hl]
  exact (pay47_at v b su w0 w1 w2 w3 sw h0 h1 h2 h3 p h e).trans
    (sgu_piece Z gq gk cw cb sg sw sb cc v b su hv hs hb p h e r n hr (by omega))

theorem sgu_piece44 (cc : Fin 2) (v : FVec Ideal S128x256 .bf16) (b su : FVec Ideal S128x256 .f32)
    (w0 w1 w2 w3 : FVec Ideal S1x128x128 .bf16) (h0 : ∀ p q, w0 (ix3 0 p q) = sw 0 p q) (h1 : ∀ p q, w1 (ix3 0 p q) = sw 1 p q)
    (h2 : ∀ p q, w2 (ix3 0 p q) = sw 2 p q) (h3 : ∀ p q, w3 (ix3 0 p q) = sw 3 p q)
    (hv : ∀ (q : Fin 128) (h : Fin 4) (e : Fin 64), v (ix2 q ⟨h.val * 64 + e.val, by omega⟩) = svn Z sg cc q h e)
    (hs : ∀ (q : Fin 128) (h : Fin 4) (e : Fin 64), su (ix2 q ⟨h.val * 64 + e.val, by omega⟩)
      = Z ⟨cc.val * 128 + q.val, by omega⟩ ⟨1536 + (h.val * 64 + e.val), by omega⟩)
    (hb : ∀ (q : Fin 128) (h : Fin 4) (e : Fin 64), b (ix2 q ⟨h.val * 64 + e.val, by omega⟩) = sb h q)
    (p : Fin 128) (l : Fin 256) (r : Fin 256) (n : Fin 1024) (hr : r.val = cc.val * 128 + p.val) (hn : n.val = 768 + l.val) :
    k0_pay44 (F := Ideal) (k0_pay43 (F := Ideal) v (iota .tc S128x256 32 [1] iota_S128x256_d1_w32) (k0_pay41 (F := Ideal) b)
        (k0_pay42 (F := Ideal) v) w0 w1 w2 w3) su (ix2 p l)
      = mixv Z gq gk cw cb sg sw sb r n := by
  obtain ⟨h, e, hl⟩ : ∃ (h : Fin 4) (e : Fin 64), l = ⟨h.val * 64 + e.val, by omega⟩ :=
    ⟨⟨l.val / 64, by omega⟩, ⟨l.val % 64, by omega⟩, Fin.ext (by simp; omega)⟩
  have hlv : l.val = h.val * 64 + e.val := congrArg Fin.val hl
  rw [hl]
  exact (pay44_at v b su w0 w1 w2 w3 sw h0 h1 h2 h3 p h e).trans
    (sgu_piece Z gq gk cw cb sg sw sb cc v b su hv hs hb p h e r n hr (by omega))

end Cells

/-- An index within a rectangle's bounds lies in it. -/
theorem mem_piece {off size : Fin 2 → ℕ} {inb : ∀ a, off a + size a ≤ S256x1024.size a} {r : Fin 256} {n : Fin 1024}
    (h0 : off 0 ≤ r.val) (h1 : r.val < off 0 + size 0) (h2 : off 1 ≤ n.val) (h3 : n.val < off 1 + size 1) :
    (ix2 r n : S256x1024.Idx) ∈ (Rect.unit (s := S256x1024) off size inb).set :=
  Rect.mem_set_unit.mpr fun a => by
    fin_cases a
    · exact ⟨h0, h1⟩
    · exact ⟨h2, h3⟩

/-- Every index of the mixed block lies in one of its seven pieces. -/
theorem cover7 {e : EltTy} (w0 w1 w2 w3 : S256x128.Idx → Elt Ideal e) (w4 w5 : S128x256.Idx → Elt Ideal e)
    (w6 : S256x256.Idx → Elt Ideal e) (r : Fin 256) (n : Fin 1024) :
    ∃ p ∈ ([⟨Rect.unit ![0, 384] ![256, 128] inb_S256x1024_S256x128_0_384, w0⟩, ⟨Rect.unit ![0, 256] ![256, 128] inb_S256x1024_S256x128_0_256, w1⟩,
      ⟨Rect.unit ![0, 128] ![256, 128] inb_S256x1024_S256x128_0_128, w2⟩, ⟨Rect.unit ![0, 0] ![256, 128] inb_S256x1024_S256x128_0_0, w3⟩,
      ⟨Rect.unit ![128, 768] ![128, 256] inb_S256x1024_S128x256_128_768, w4⟩, ⟨Rect.unit ![0, 768] ![128, 256] inb_S256x1024_S128x256_0_768, w5⟩,
      ⟨Rect.unit ![0, 512] ![256, 256] inb_S256x1024_S256x256_0_512, w6⟩] : List (View.Piece (Elt Ideal) S256x1024 e)),
      (ix2 r n : S256x1024.Idx) ∈ p.1.set := by
  have hc : (n.val < 128 ∨ 128 ≤ n.val ∧ n.val < 256 ∨ 256 ≤ n.val ∧ n.val < 384 ∨ 384 ≤ n.val ∧ n.val < 512
    ∨ 512 ≤ n.val ∧ n.val < 768 ∨ 768 ≤ n.val ∧ r.val < 128 ∨ 768 ≤ n.val ∧ 128 ≤ r.val) := by omega
  rcases hc with h | h | h | h | h | h | h
  · refine ⟨_, .tail _ (.tail _ (.tail _ (.head _))), ?_⟩
    exact mem_piece (inb := inb_S256x1024_S256x128_0_0) (by simp <;> omega) (by simp <;> omega) (by simp <;> omega) (by simp <;> omega)
  · refine ⟨_, .tail _ (.tail _ (.head _)), ?_⟩
    exact mem_piece (inb := inb_S256x1024_S256x128_0_128) (by simp <;> omega) (by simp <;> omega) (by simp <;> omega) (by simp <;> omega)
  · refine ⟨_, .tail _ (.head _), ?_⟩
    exact mem_piece (inb := inb_S256x1024_S256x128_0_256) (by simp <;> omega) (by simp <;> omega) (by simp <;> omega) (by simp <;> omega)
  · refine ⟨_, .head _, ?_⟩
    exact mem_piece (inb := inb_S256x1024_S256x128_0_384) (by simp <;> omega) (by simp <;> omega) (by simp <;> omega) (by simp <;> omega)
  · refine ⟨_, .tail _ (.tail _ (.tail _ (.tail _ (.tail _ (.tail _ (.head _)))))), ?_⟩
    exact mem_piece (inb := inb_S256x1024_S256x256_0_512) (by simp <;> omega) (by simp <;> omega) (by simp <;> omega) (by simp <;> omega)
  · refine ⟨_, .tail _ (.tail _ (.tail _ (.tail _ (.tail _ (.head _))))), ?_⟩
    exact mem_piece (inb := inb_S256x1024_S128x256_0_768) (by simp <;> omega) (by simp <;> omega) (by simp <;> omega) (by simp <;> omega)
  · refine ⟨_, .tail _ (.tail _ (.tail _ (.tail _ (.head _)))), ?_⟩
    exact mem_piece (inb := inb_S256x1024_S128x256_128_768) (by simp <;> omega) (by simp <;> omega) (by simp <;> omega) (by simp <;> omega)

variable (m : (ℓ : Loc nD τ sig) → Buf (Elt Ideal) ℓ) (c : Dev nD) (t : Fin cfg0.N)

/-- The projected rows of a grid point's sequence. -/
abbrev ZT : Fin 256 → Fin 2048 → EReal := MixRef.ZR (A0 m c) (A1 m c) (A2 m c) ⟨t.val, lt t⟩

/-- The mixed row of a grid point's sequence. -/
abbrev MT : Fin 256 → Fin 1024 → EReal :=
  mixv (ZT m c t) (fun d => A4 m c (ix1 d)) (fun d => A5 m c (ix1 d)) (fun i n => A6 m c (ix2 i n)) (fun n => A7 m c (ix1 n))
    (fun n => A8 m c (ix1 n)) (fun h p q => A9 m c (ix3 h p q)) (fun h p => A10 m c (ix2 h p))

theorem z_at (r : Fin 256) (n : Fin 2048) :
    k0_pay2 (F := Ideal) (iblk m c 0 t)
        (View.ld (iblk m c 1 t) (Rect.unit ![0, 1, 0] ![1, 1, 1024] inb_S1x8x1024_S1x1x1024_0_1_0))
        (View.ld (iblk m c 1 t) (Rect.unit ![0, 0, 0] ![1, 1, 1024] inb_S1x8x1024_S1x1x1024_0_0_0)) (iblk m c 2 t) (ix2 r n)
      = ZT m c t r n := by
  rw [pay2_at]
  show _ = MixRef.ZR _ _ _ _ r n
  unfold MixRef.ZR
  congr 1
  · exact funext fun r => funext fun k => blk0_at m c t r k
  · exact funext fun k => (by pointwise : _ = (show FVec Ideal S1x8x1024 .f32 from iblk m c 1 t) (ix3 0 1 k)).trans (blk1_at m c t 1 k)
  · exact funext fun k => (by pointwise : _ = (show FVec Ideal S1x8x1024 .f32 from iblk m c 1 t) (ix3 0 0 k)).trans (blk1_at m c t 0 k)
  · exact funext fun k => funext fun n => blk2_at m c t k n

/-- The columns the spatial gating unit multiplies. -/
theorem pay30_at (z : FVec Ideal S256x2048 .f32) (r : Fin 256) (n : Fin 256) :
    k0_pay30 (F := Ideal) z (ix2 r n) = z (ix2 r ⟨1536 + n.val, by omega⟩) := by
  pointwise [k0_pay30]

variable (hZ : ∀ r n, Rl (ZT m c t r n))
include hZ

/-- The second result's block: the keys. -/
theorem out15_at (r : Fin 256) (j : Fin 2) (d : Fin 64) :
    (outsAt0 m c t).2.1 (ix2 r ⟨j.val * 64 + d.val, by omega⟩) = kh (ZT m c t) (fun d => A5 m c (ix1 d)) r j d := by
  unfold outsAt0
  frame_open
  simp (disch := decide) only [↓ View.readCov_skip, ↓ View.readCov_cons_toLoadRect, ↓ View.readCov_fill]
  frame_out
  exact pay8_at _ _ _ _ (z_at m c t) hZ (fun a b => (pay3_at _ a b).trans (blk6_at m c t a b)) _ (fun j d => blk5_at m c t j d) r j d

/-- The third result's block: the values. -/
theorem out16_at (r : Fin 256) (j : Fin 2) (d : Fin 64) :
    (outsAt0 m c t).2.2 (ix2 r ⟨j.val * 64 + d.val, by omega⟩) = vh (ZT m c t) r j d := by
  unfold outsAt0
  frame_open
  simp (disch := decide) only [↓ View.readCov_skip, ↓ View.readCov_cons_toLoadRect, ↓ View.readCov_fill]
  frame_out
  exact pay9_at _ _ (z_at m c t) r j d

variable (hgq : ∀ d, Rl (A4 m c (ix1 d))) (hgk : ∀ d, Rl (A5 m c (ix1 d)))
include hgq hgk

set_option maxHeartbeats 2000000 in
/-- The first result's block. -/
theorem out14_at (r : Fin 256) (j : Fin 1024) :
    (outsAt0 m c t).1 (ix2 r j)
      = out (fun k => A0 m c (ix3 ⟨t.val, lt t⟩ r k)) (fun k => A1 m c (ix3 0 2 k)) (MT m c t r) (fun k j => A3 m c (ix2 k j))
          (fun k => A11 m c (ix1 k)) (fun k => A12 m c (ix1 k)) j := by
  unfold outsAt0
  frame_open
  simp (disch := decide) only [↓ View.readCov_skip, ↓ View.readCov_cons_toLoadRect, ↓ View.readCov_fill]
  frame_out
  have hz := z_at m c t
  have hQ := pay11_at _ _ _ _ _ _ _ hz hZ (fun a b => (pay3_at _ a b).trans (blk6_at m c t a b)) _ (fun j d => blk4_at m c t j d)
  have hK := pay8_at _ _ _ _ hz hZ (fun a b => (pay3_at _ a b).trans (blk6_at m c t a b)) _ (fun j d => blk5_at m c t j d)
  have hV := pay9_at _ _ hz
  have hS := fun r h e => pay35_at _ _ (iblk m c 9 t) _ hz hZ (fun a b => (pay3_at _ a b).trans (blk6_at m c t a b)) r h e
  have hU := fun r n => pay30_at (k0_pay2 (F := Ideal) (iblk m c 0 t)
    (View.ld (iblk m c 1 t) (Rect.unit ![0, 1, 0] ![1, 1, 1024] inb_S1x8x1024_S1x1x1024_0_1_0))
    (View.ld (iblk m c 1 t) (Rect.unit ![0, 0, 0] ![1, 1, 1024] inb_S1x8x1024_S1x1x1024_0_0_0)) (iblk m c 2 t)) r n
  refine (pay1_at _ _ _ _ _ _ _ _).trans ?_
  congr 1
  · exact funext fun k => blk0_at m c t r k
  · exact funext fun k => (by pointwise : _ = (show FVec Ideal S1x8x1024 .f32 from iblk m c 1 t) (ix3 0 2 k)).trans (blk1_at m c t 2 k)
  · funext n
    rw [View.readCov_eq_canon']
    dsimp only
    rw [show (Rect.unit (s := S256x1024) ![0, 0] ![256, 1024] inb_S256x1024_S256x1024_0_0).toLoadRect.idx (ix2 r n) = ix2 r n from
      funext fun a => Fin.ext (by fin_cases a <;> simp)]
    refine View.canon_eq_of_allAt _ _ _ ?_ ?_
    · exact cover7 _ _ _ _ _ _ _ r n
    refine View.allAt_cons_unit _ _ _ _ _ ?_ (View.allAt_cons_unit _ _ _ _ _ ?_ (View.allAt_cons_unit _ _ _ _ _ ?_
      (View.allAt_cons_unit _ _ _ _ _ ?_ (View.allAt_cons_unit _ _ _ _ _ ?_ (View.allAt_cons_unit _ _ _ _ _ ?_
      (View.allAt_cons_unit _ _ _ _ _ ?_ (View.allAt_nil _ _)))))))
    · tile_intro x h
      obtain ⟨a, b, rfl⟩ : ∃ (a : Fin 256) (b : Fin 128), x = ix2 a b := ⟨x 0, x 1, eq_ix2 x⟩
      obtain rfl : r = a := Fin.ext h0
      refine (pay59_at _ _ _ _ _ _ _).trans (att_cell _ _ _ _ _ _ _ _ hZ hgq hgk (3 : Fin 4) r _ _ _ _ _ (fun i d => ?_)
        (fun s l => pay17_at _ _ hK s l) (fun s l => pay26_at _ _ hV s l) (fun s l => pay18_at _ _ hK s l)
        (fun s l => pay27_at _ _ hV s l) b n h1)
      exact (View.ld_unit_apply_of _ _ _ _ _ _ fun a => by fin_cases a <;> simp <;> omega).trans (hQ r _ _ d)
    · tile_intro x h
      obtain ⟨a, b, rfl⟩ : ∃ (a : Fin 256) (b : Fin 128), x = ix2 a b := ⟨x 0, x 1, eq_ix2 x⟩
      obtain rfl : r = a := Fin.ext h0
      refine (pay57_at _ _ _ _ _ _ _).trans (att_cell _ _ _ _ _ _ _ _ hZ hgq hgk (2 : Fin 4) r _ _ _ _ _ (fun i d => ?_)
        (fun s l => pay17_at _ _ hK s l) (fun s l => pay26_at _ _ hV s l) (fun s l => pay18_at _ _ hK s l)
        (fun s l => pay27_at _ _ hV s l) b n h1)
      exact (View.ld_unit_apply_of _ _ _ _ _ _ fun a => by fin_cases a <;> simp <;> omega).trans (hQ r _ _ d)
    · tile_intro x h
      obtain ⟨a, b, rfl⟩ : ∃ (a : Fin 256) (b : Fin 128), x = ix2 a b := ⟨x 0, x 1, eq_ix2 x⟩
      obtain rfl : r = a := Fin.ext h0
      refine (pay55_at _ _ _ _ _ _ _).trans (att_cell _ _ _ _ _ _ _ _ hZ hgq hgk (1 : Fin 4) r _ _ _ _ _ (fun i d => ?_)
        (fun s l => pay15_at _ _ hK s l) (fun s l => pay24_at _ _ hV s l) (fun s l => pay16_at _ _ hK s l)
        (fun s l => pay25_at _ _ hV s l) b n h1)
      exact (View.ld_unit_apply_of _ _ _ _ _ _ fun a => by fin_cases a <;> simp <;> omega).trans (hQ r _ _ d)
    · tile_intro x h
      obtain ⟨a, b, rfl⟩ : ∃ (a : Fin 256) (b : Fin 128), x = ix2 a b := ⟨x 0, x 1, eq_ix2 x⟩
      obtain rfl : r = a := Fin.ext h0
      refine (pay51_at _ _ _ _ _ _ _).trans (att_cell _ _ _ _ _ _ _ _ hZ hgq hgk (0 : Fin 4) r _ _ _ _ _ (fun i d => ?_)
        (fun s l => pay15_at _ _ hK s l) (fun s l => pay24_at _ _ hV s l) (fun s l => pay16_at _ _ hK s l)
        (fun s l => pay25_at _ _ hV s l) b n (by simpa using h1))
      exact (View.ld_unit_apply_of _ _ _ _ _ _ fun a => by fin_cases a <;> simp <;> omega).trans (hQ r _ _ d)
    · tile_intro x h
      obtain ⟨a, b, rfl⟩ : ∃ (a : Fin 128) (b : Fin 256), x = ix2 a b := ⟨x 0, x 1, eq_ix2 x⟩
      have h0' : r.val = (1 : Fin 2).val * 128 + a.val := h0
      refine sgu_piece47 _ _ _ _ _ _ _ _ (1 : Fin 2) _ _ _ _ _ _ _ (fun p q => ?_) (fun p q => ?_) (fun p q => ?_)
        (fun p q => ?_) (fun q h e => ?_) (fun q h e => ?_) (fun q h e => blk11_at m c t q h e) a b r n h0' h1
      · exact (View.ld_unit_apply_of _ _ _ _ _ (ix3 0 p q) fun a => by fin_cases a <;> simp).trans (blk10_at m c t 0 p q)
      · exact (View.ld_unit_apply_of _ _ _ _ _ (ix3 1 p q) fun a => by fin_cases a <;> simp).trans (blk10_at m c t 1 p q)
      · exact (View.ld_unit_apply_of _ _ _ _ _ (ix3 2 p q) fun a => by fin_cases a <;> simp).trans (blk10_at m c t 2 p q)
      · exact (View.ld_unit_apply_of _ _ _ _ _ (ix3 3 p q) fun a => by fin_cases a <;> simp).trans (blk10_at m c t 3 p q)
      · refine (View.ld_unit_apply_of _ _ _ _ _ (ix2 ⟨(1 : Fin 2).val * 128 + q.val, by simp; omega⟩ ⟨h.val * 64 + e.val, by omega⟩)
          fun a => by fin_cases a <;> simp).trans ((hS _ h e).trans ?_)
        unfold svn
        exact congrArg _ (blk9_at m c t _)
      · refine (View.ld_unit_apply_of _ _ _ _ _ (ix2 ⟨(1 : Fin 2).val * 128 + q.val, by simp; omega⟩ ⟨h.val * 64 + e.val, by omega⟩)
          fun a => by fin_cases a <;> simp).trans ((hU _ _).trans (hz _ _))
    · tile_intro x h
      obtain ⟨a, b, rfl⟩ : ∃ (a : Fin 128) (b : Fin 256), x = ix2 a b := ⟨x 0, x 1, eq_ix2 x⟩
      have h0' : r.val = (0 : Fin 2).val * 128 + a.val := by simpa using h0
      refine sgu_piece44 _ _ _ _ _ _ _ _ (0 : Fin 2) _ _ _ _ _ _ _ (fun p q => ?_) (fun p q => ?_) (fun p q => ?_)
        (fun p q => ?_) (fun q h e => ?_) (fun q h e => ?_) (fun q h e => blk11_at m c t q h e) a b r n h0' h1
      · exact (View.ld_unit_apply_of _ _ _ _ _ (ix3 0 p q) fun a => by fin_cases a <;> simp).trans (blk10_at m c t 0 p q)
      · exact (View.ld_unit_apply_of _ _ _ _ _ (ix3 1 p q) fun a => by fin_cases a <;> simp).trans (blk10_at m c t 1 p q)
      · exact (View.ld_unit_apply_of _ _ _ _ _ (ix3 2 p q) fun a => by fin_cases a <;> simp).trans (blk10_at m c t 2 p q)
      · exact (View.ld_unit_apply_of _ _ _ _ _ (ix3 3 p q) fun a => by fin_cases a <;> simp).trans (blk10_at m c t 3 p q)
      · refine (View.ld_unit_apply_of _ _ _ _ _ (ix2 ⟨(0 : Fin 2).val * 128 + q.val, by simp; omega⟩ ⟨h.val * 64 + e.val, by omega⟩)
          fun a => by fin_cases a <;> simp).trans ((hS _ h e).trans ?_)
        unfold svn
        exact congrArg _ (blk9_at m c t _)
      · refine (View.ld_unit_apply_of _ _ _ _ _ (ix2 ⟨(0 : Fin 2).val * 128 + q.val, by simp; omega⟩ ⟨h.val * 64 + e.val, by omega⟩)
          fun a => by fin_cases a <;> simp).trans ((hU _ _).trans (hz _ _))
    · tile_intro x h
      obtain ⟨a, b, rfl⟩ : ∃ (a : Fin 256) (b : Fin 256), x = ix2 a b := ⟨x 0, x 1, eq_ix2 x⟩
      obtain rfl : r = a := Fin.ext h0
      refine (pay40_at _ _ hz _ _ _ _ (fun i n => A6 m c (ix2 i n)) (fun n => A7 m c (ix1 n)) (fun n => ?_) (fun n => ?_)
        (fun n => ?_) (fun n => blk8_at m c t n) r b).trans (conv_cell _ _ _ _ _ _ _ _ r b n h1)
      · exact (View.ld_unit_apply_of _ _ _ _ _ (ix2 0 n) fun a => by fin_cases a <;> simp).trans (blk7_at m c t 0 n)
      · exact (View.ld_unit_apply_of _ _ _ _ _ (ix2 1 n) fun a => by fin_cases a <;> simp).trans (blk7_at m c t 1 n)
      · exact (View.ld_unit_apply_of _ _ _ _ _ (ix2 2 n) fun a => by fin_cases a <;> simp).trans (blk7_at m c t 2 n)
  · exact funext fun k => funext fun j => blk3_at m c t k j
  · exact funext fun k => blk12_at m c t k
  · exact funext fun k => blk13_at m c t k

end Cert.MixOut
-- ==== Proof.MixFinal.lean ====
/-
  The mixer kernel's result arrays after the run are the reference's: the mixed rows on the rows below 8192, the
  keys and the values whole.
-/
module

public import proofs.«01_k».proof.Proof.MixOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFinal

open Cert.KernelIdeal Cert.KernelIdeal.Gen Cert.Layer Cert.Mix Cert.MixBlock Cert.MixOut

variable (m : (ℓ : Loc nD τ sig) → Buf (Elt Ideal) ℓ)

/-- The mixed rows, of the layer's arrays. -/
abbrev REF0 (x0 : FVec Ideal S32x256x1024 .f32) (x1 : FVec Ideal S3x6x1024 .f32) (x2 : FVec Ideal S1024x2048 .f32)
    (x3 : FVec Ideal S1024x1024 .f32) (x4 x5 : FVec Ideal S64 .f32) (x6 : FVec Ideal S3x256 .f32) (x7 x8 : FVec Ideal S256 .f32)
    (x9 : FVec Ideal S4x128x128 .f32) (x10 : FVec Ideal S4x128 .f32) (x11 x12 : FVec Ideal S1024 .f32) :
    FVec Ideal S10240x1024 .f32 :=
  Cert.ReferenceIdeal.Read.val_main_v173 (F := Ideal) x0 x1 x2 x3 x4 x5 x6 x7 x8 x9 x10 x11 x12

/-- The keys, of the layer's arrays. -/
abbrev REF1 (x0 : FVec Ideal S32x256x1024 .f32) (x1 : FVec Ideal S3x6x1024 .f32) (x2 : FVec Ideal S1024x2048 .f32)
    (x5 : FVec Ideal S64 .f32) : FVec Ideal S8192x128 .f32 :=
  Cert.ReferenceIdeal.Read.val_main_v174 (F := Ideal) x0 x1 x2 x5

/-- The values, of the layer's arrays. -/
abbrev REF2 (x0 : FVec Ideal S32x256x1024 .f32) (x1 : FVec Ideal S3x6x1024 .f32) (x2 : FVec Ideal S1024x2048 .f32) :
    FVec Ideal S8192x128 .f32 :=
  Cert.ReferenceIdeal.Read.val_main_v175 (F := Ideal) x0 x1 x2

/-- The projected rows are finite when the arrays they are made of are. -/
theorem rl_Z (c : Dev nD) (h0 : ∀ i, Rl (A0 m c i)) (h1 : ∀ i, Rl (A1 m c i)) (h2 : ∀ i, Rl (A2 m c i)) (t : Fin cfg0.N)
    (r : Fin 256) (n : Fin 2048) : Rl (ZT m c t r n) :=
  Rl.proj (fun r k => h0 _) (fun k => h1 _) (fun k => h1 _) (fun k n => h2 _) r n

/-- The keys of a grid point's block, at the array index they sit at. -/
theorem point15 (c : Dev nD) (t : Fin cfg0.N) (hZ : ∀ r n, Rl (ZT m c t r n)) (r : Fin 256) (l : Fin 128)
    (h : t.val * 256 + r.val < 8192) :
    (outsAt0 m c t).2.1 (ix2 r l) = REF1 (A0 m c) (A1 m c) (A2 m c) (A5 m c) (ix2 ⟨t.val * 256 + r.val, h⟩ l) := by
  obtain ⟨j, d, rfl⟩ : ∃ (j : Fin 2) (d : Fin 64), l = ⟨j.val * 64 + d.val, by omega⟩ :=
    ⟨⟨l.val / 64, by omega⟩, ⟨l.val % 64, by omega⟩, Fin.ext (by simp; omega)⟩
  refine (out15_at m c t hZ r j d).trans (Eq.trans ?_ (MixRef.v174_at _ _ _ _ _ _).symm)
  unfold ZT
  congr 1 <;> first | rfl | (apply Fin.ext; dsimp only; omega) | (congr 1; apply Fin.ext; dsimp only; omega)

/-- The values of a grid point's block, at the array index they sit at. -/
theorem point16 (c : Dev nD) (t : Fin cfg0.N) (hZ : ∀ r n, Rl (ZT m c t r n)) (r : Fin 256) (l : Fin 128)
    (h : t.val * 256 + r.val < 8192) :
    (outsAt0 m c t).2.2 (ix2 r l) = REF2 (A0 m c) (A1 m c) (A2 m c) (ix2 ⟨t.val * 256 + r.val, h⟩ l) := by
  obtain ⟨j, d, rfl⟩ : ∃ (j : Fin 2) (d : Fin 64), l = ⟨j.val * 64 + d.val, by omega⟩ :=
    ⟨⟨l.val / 64, by omega⟩, ⟨l.val % 64, by omega⟩, Fin.ext (by simp; omega)⟩
  refine (out16_at m c t hZ r j d).trans (Eq.trans ?_ (MixRef.v175_at _ _ _ _ _).symm)
  unfold ZT
  congr 1 <;> first | rfl | (apply Fin.ext; dsimp only; omega) | (congr 1; apply Fin.ext; dsimp only; omega)

/-- The mixed rows of a grid point's block, at the array index they sit at. -/
theorem point14 (c : Dev nD) (t : Fin cfg0.N) (hZ : ∀ r n, Rl (ZT m c t r n)) (h4 : ∀ i, Rl (A4 m c i)) (h5 : ∀ i, Rl (A5 m c i))
    (r : Fin 256) (j : Fin 1024) (h : t.val * 256 + r.val < 10240) :
    (outsAt0 m c t).1 (ix2 r j) = REF0 (A0 m c) (A1 m c) (A2 m c) (A3 m c) (A4 m c) (A5 m c) (A6 m c) (A7 m c) (A8 m c) (A9 m c)
      (A10 m c) (A11 m c) (A12 m c) (ix2 ⟨t.val * 256 + r.val, h⟩ j) := by
  have ht := lt t
  have h' : t.val * 256 + r.val < 8192 := by omega
  have e1 : (⟨(t.val * 256 + r.val) / 256, by omega⟩ : Fin 32) = ⟨t.val, ht⟩ := Fin.ext (by simp; omega)
  have e2 : (⟨(t.val * 256 + r.val) % 256, by omega⟩ : Fin 256) = r := Fin.ext (by dsimp only; omega)
  refine (out14_at m c t hZ (fun d => h4 _) (fun d => h5 _) r j).trans
    (Eq.trans ?_ (MixRef.v173_at _ _ _ _ _ _ _ _ _ _ _ _ _ ⟨t.val * 256 + r.val, h'⟩ j).symm)
  refine Eq.trans ?_ (MixRef.v171_at _ _ _ _ _ _ _ _ _ _ _ _ _ _ _ _).symm
  dsimp only
  rw [e1, e2]

/-- The keys after the run are the reference's. -/
theorem final15 (c : Dev nD) (hZ : ∀ t r n, Rl (ZT m c t r n)) :
    (dats m 0 c).arrAt 15 (cfgs 0).N = REF1 (A0 m c) (A1 m c) (A2 m c) (A5 m c) := by
  refine (dats m 0 c).arrAt_eq_of_covers 15 _ (by decide +kernel) fun t _ y => ?_
  blk_simp
  rw [after0_15]
  obtain ⟨r, j, rfl⟩ : ∃ (r : Fin 256) (j : Fin 128), y = ix2 r j := ⟨y 0, y 1, eq_ix2 y⟩
  have h : t.val * 256 + r.val < 8192 := by have := lt t; omega
  refine (point15 m c t (hZ t) r j h).trans (congrArg _ ?_)
  blk_ext [idx t]

/-- The values after the run are the reference's. -/
theorem final16 (c : Dev nD) (hZ : ∀ t r n, Rl (ZT m c t r n)) :
    (dats m 0 c).arrAt 16 (cfgs 0).N = REF2 (A0 m c) (A1 m c) (A2 m c) := by
  refine (dats m 0 c).arrAt_eq_of_covers 16 _ (by decide +kernel) fun t _ y => ?_
  blk_simp
  rw [after0_16]
  obtain ⟨r, j, rfl⟩ : ∃ (r : Fin 256) (j : Fin 128), y = ix2 r j := ⟨y 0, y 1, eq_ix2 y⟩
  have h : t.val * 256 + r.val < 8192 := by have := lt t; omega
  refine (point16 m c t (hZ t) r j h).trans (congrArg _ ?_)
  blk_ext [idx t]

/-- The mixed rows after the run are the reference's on the rows below 8192. -/
theorem final14 (c : Dev nD) (hZ : ∀ t r n, Rl (ZT m c t r n)) (h4 : ∀ i, Rl (A4 m c i)) (h5 : ∀ i, Rl (A5 m c i))
    (i : S10240x1024.Idx) (hi : (i 0 : ℕ) < 8192) :
    (dats m 0 c).arrAt 14 (cfgs 0).N i = REF0 (A0 m c) (A1 m c) (A2 m c) (A3 m c) (A4 m c) (A5 m c) (A6 m c) (A7 m c) (A8 m c) (A9 m c)
      (A10 m c) (A11 m c) (A12 m c) i := by
  have e : (dats m 0 c).arrAt 14 (cfgs 0).N = fun i : S10240x1024.Idx => if (i 0 : ℕ) < 8192 then
      REF0 (A0 m c) (A1 m c) (A2 m c) (A3 m c) (A4 m c) (A5 m c) (A6 m c) (A7 m c) (A8 m c) (A9 m c)
      (A10 m c) (A11 m c) (A12 m c) i else (dats m 0 c).A 14 i := by
    refine (dats m 0 c).arrAt_eq_of_coversWhere 14 _ (fun β => β (0 : Fin 2) < 32) (by decide +kernel) (fun t hf y => ?_)
      (fun j => by blk_simp [Pipeline.Window.cell_apply]; omega)
    blk_simp
    rw [after0_14]
    obtain ⟨r, j, rfl⟩ : ∃ (r : Fin 256) (j : Fin 1024), y = ix2 r j := ⟨y 0, y 1, eq_ix2 y⟩
    have h : t.val * 256 + r.val < 10240 := by have := lt t; omega
    refine (point14 m c t (hZ t) h4 h5 r j h).trans (congrArg _ ?_)
    blk_ext [idx t]
  exact (congrFun e i).trans (if_pos hi)

end Cert.MixFinal
-- ==== Proof.MixPre.lean ====
/-
  What the precondition and the mask of the mixer's claim say, entry by entry.
-/
module

public import proofs.«01_k».proof.Pre_finite
public import proofs.«01_k».proof.On_context_rows
public import proofs.«01_k».proof.Proof.MixFin
public import Idealize.ShloMosaic.Lib.Pipeline.ValueKit

@[expose] public section

noncomputable section

open Idealize.ShloMosaic Cert.Layer

namespace Cert.MixPre

open Cert.Mix

/-- The bit pattern of positive infinity is the top element. -/
theorem top : Ideal.ofBits .f32 0x7F800000#32 = ⊤ := by simp [Ideal.ofBits, Ideal.ieee]

/-- Two bits whose conjunction is set are both set. -/
theorem both : ∀ a b : BitVec 1, IntOp.andi a b = 1#1 → a = 1#1 ∧ b = 1#1 := by decide

/-- An extended real whose absolute value is below the top is finite. -/
theorem rl_of_abs (x : EReal) (h : max x (-x) < ⊤) : Rl x := by
  induction x using EReal.rec with
  | bot => simp at h
  | coe r => exact ⟨r, rfl⟩
  | top => simp at h

/-- What compares below the top is below it. -/
theorem lt_of_cmp (w : EReal) (e : Ideal.cmp .olt w ⊤ = 1#1) : w < ⊤ := by
  by_contra hn
  simp [Ideal.cmp, hn] at e

/-- An array compared with infinity, at an index. -/
theorem cmp_top {t : Shape} (w : FVec Ideal t .f32) (j : t.Idx) (e : cmpf .olt w (constant t .f32 0x7F800000#32) j = 1#1) :
    Ideal.cmp .olt (w j) ⊤ = 1#1 := by
  rw [← top]; exact e

/-- A running maximum that compares below the top bounds each of its terms below the top. -/
theorem lt_of_fold {ι : Type} (S : Finset ι) (b : Ideal .f32) (f : ι → Ideal .f32) (w : Ideal .f32)
    (hw : w = S.fold (β := Ideal .f32) FloatOps.maximumf b f) (e : Ideal.cmp .olt w ⊤ = 1#1) (i : ι) (hi : i ∈ S) :
    (f i : EReal) < ⊤ := by
  have h : (S.fold (β := EReal) max b f : EReal) < ⊤ := (show (w : EReal) = S.fold (β := EReal) max b f from hw) ▸ lt_of_cmp w e
  exact ((Finset.fold_max_lt ⊤).1 h).2 i hi

/-- An array whose greatest absolute value is below infinity has finite entries. -/
theorem rl_of_max {s t : Shape} {axes : List (Fin s.rank)} (h : s.ReducesTo axes t) (h0 : 0 < t.numel) (x : FVec Ideal s .f32)
    (hs : ∀ i j : t.Idx, i = j) (j : t.Idx)
    (e : cmpf .olt (Host.reduce FloatOps.maximumf (Host.absf x) (constant t .f32 0xFF800000#32) h h0) (constant t .f32 0x7F800000#32) j = 1#1)
    (i : s.Idx) : Rl (x i) := by
  exact rl_of_abs _ (lt_of_fold _ _ _ _ (Host.reduce_eq_fold _ _ _ h h0 j) (cmp_top _ j e) i
    (Finset.mem_filter.2 ⟨Finset.mem_univ _, hs _ _⟩))

/-- An index of a conjunction of two arrays of bits. -/
theorem both_at {t : Shape} (a b : IVec t 1) (j : t.Idx) (h : andi a b j = 1#1) : a j = 1#1 ∧ b j = 1#1 := both _ _ h

section Finite

open Cert.Pre_finite Cert.Pre_finite.Facts

variable [Cert.Pre_finite.Facts] (a0 : FVec Ideal S32x256x1024 .f32) (a1 : FVec Ideal S3x6x1024 .f32) (a2 : FVec Ideal S1024x2048 .f32) (a3 : FVec Ideal S1024x1024 .f32)
  (a4 a5 : FVec Ideal S64 .f32) (a6 : FVec Ideal S3x256 .f32) (a7 a8 : FVec Ideal S256 .f32) (a9 : FVec Ideal S4x128x128 .f32)
  (a10 : FVec Ideal S4x128 .f32) (a11 a12 : FVec Ideal S1024 .f32)

/-- Under the precondition the five arrays it names have finite entries. -/
theorem finite_apply (h : fn (F := Ideal) a0 a1 a2 a3 a4 a5 a6 a7 a8 a9 a10 a11 a12 = fun _ => 1#1) :
    (∀ i, Rl (a0 i)) ∧ (∀ i, Rl (a1 i)) ∧ (∀ i, Rl (a2 i)) ∧ (∀ i, Rl (a4 i)) ∧ (∀ i, Rl (a5 i)) := by
  have j : S_.Idx := fun a => a.elim0
  have hs : ∀ i k : S_.Idx, i = k := fun i k => funext fun a => a.elim0
  unfold fn at h
  unfold fn_part1 at h
  dsimp only at h
  obtain ⟨h, h5⟩ := both_at _ _ _ (congrFun h j)
  obtain ⟨h, h4⟩ := both_at _ _ _ h
  obtain ⟨h, h2⟩ := both_at _ _ _ h
  obtain ⟨h0, h1⟩ := both_at _ _ _ h
  refine ⟨?_, ?_, ?_, ?_, ?_⟩
  · exact rl_of_max reducesTo_S32x256x1024_S_d0_1_2 h_S_ a0 hs j h0
  · exact rl_of_max reducesTo_S3x6x1024_S_d0_1_2 h_S_ a1 hs j h1
  · exact rl_of_max reducesTo_S1024x2048_S_d0_1 h_S_ a2 hs j h2
  · exact rl_of_max reducesTo_S64_S_d0 h_S_ a4 hs j h4
  · exact rl_of_max reducesTo_S64_S_d0 h_S_ a5 hs j h5

end Finite

section Rows

open Cert.On_context_rows

variable [Cert.On_context_rows.Facts] (a0 : FVec Ideal S32x256x1024 .f32) (a1 : FVec Ideal S3x6x1024 .f32) (a2 : FVec Ideal S1024x2048 .f32) (a3 : FVec Ideal S1024x1024 .f32)
  (a4 a5 : FVec Ideal S64 .f32) (a6 : FVec Ideal S3x256 .f32) (a7 a8 : FVec Ideal S256 .f32) (a9 : FVec Ideal S4x128x128 .f32)
  (a10 : FVec Ideal S4x128 .f32) (a11 a12 : FVec Ideal S1024 .f32)

/-- Where the mask of the first result is set the row is below 8192. -/
theorem row_lt (i : S10240x1024.Idx) (h : (fn (F := Ideal) a0 a1 a2 a3 a4 a5 a6 a7 a8 a9 a10 a11 a12).1 i = 1#1) :
    (i 0 : ℕ) < 8192 := by
  have h' : IntOp.cmpi .slt (BitVec.ofNat 32 (i 0 : ℕ)) 8192#32 = 1#1 := h
  have hr : (i 0 : ℕ) < 10240 := (i 0).isLt
  generalize (i 0 : ℕ) = r at h' hr ⊢
  by_contra hn
  have hf : (BitVec.ofNat 32 r).slt 8192#32 = false := by
    have hm : r % 2 ^ 32 = r := Nat.mod_eq_of_lt (by omega)
    have e1 : (BitVec.ofNat 32 r).toInt = r := by
      rw [BitVec.toInt_eq_toNat_of_lt (by rw [BitVec.toNat_ofNat, hm]; omega), BitVec.toNat_ofNat, hm]
    have e2 : (8192#32).toInt = 8192 := by decide
    simp only [BitVec.slt, decide_eq_false_iff_not, e1, e2]
    omega
  simp [IntOp.cmpi, hf] at h'

end Rows

end Cert.MixPre
-- ==== Proof.MixClaim.lean ====
/-
  The mixer kernel computes its reference on the rows it writes, from finite arrays.
-/
module

public import proofs.«01_k».proof.Defs
public import proofs.«01_k».proof.Proof.MixFinal
public import proofs.«01_k».proof.Proof.MixPre
public import proofs.«01_k».proof.Proof.Gen.ReferenceIdeal.Run

@[expose] public section

set_option maxRecDepth 16384

noncomputable section

open Idealize.ShloMosaic Idealize.ShloMosaic.TcCoe Idealize.SL.Sem

namespace Cert.MixClaim

open Cert.MixBlock Cert.MixFinal

/-- From memories agreeing on the arguments, finite where the precondition asks it, the kernel and the reference end
    with the same three result arrays where the mask is set. -/
theorem algebraic [Cert.KernelIdeal.Facts] [Cert.ReferenceIdeal.Facts] [Cert.Pre_finite.Facts] [Cert.On_context_rows.Facts] :
    Cert.algebraic_KernelIdeal_ReferenceIdeal_on_context_rows_pre_finite := by
  intro m g m' g' hpre hagree
  have hfin := fun c => Cert.MixPre.finite_apply _ _ _ _ _ _ _ _ _ _ _ _ _ (hpre c)
  have hZ := fun c => rl_Z m c (hfin c).1 (hfin c).2.1 (hfin c).2.2.1
  refine ⟨fun c => REF0 (A0 m c) (A1 m c) (A2 m c) (A3 m c) (A4 m c) (A5 m c) (A6 m c) (A7 m c) (A8 m c) (A9 m c)
      (A10 m c) (A11 m c) (A12 m c), fun c => REF1 (A0 m c) (A1 m c) (A2 m c) (A5 m c),
      fun c => REF2 (A0 m c) (A1 m c) (A2 m c), ?_, ?_⟩
  · refine (θ_run Cert.KernelIdeal.defs _ _).mono (fun _ h c => ⟨fun i hi => ?_, fun i _ => ?_, fun i _ => ?_, (h c).2.2.2⟩)
      (Cert.KernelIdeal.Value.run_blocks m g)
    · exact (congrFun (h c).1 i).trans (final14 m c (hZ c) (hfin c).2.2.2.1 (hfin c).2.2.2.2 i (Cert.MixPre.row_lt _ _ _ _ _ _ _ _ _ _ _ _ _ i hi))
    · exact congrFun ((h c).2.1.trans (final15 m c (hZ c))) i
    · exact congrFun ((h c).2.2.1.trans (final16 m c (hZ c))) i
  · refine (θ_run Cert.ReferenceIdeal.defs _ _).mono (fun _ h c => ⟨fun i _ => congrFun ((h c).1.trans ?_) i,
      fun i _ => congrFun ((h c).2.1.trans ?_) i, fun i _ => congrFun ((h c).2.2.1.trans ?_) i, (h c).2.2.2⟩)
      (Cert.ReferenceIdeal.Value.run m' g')
    · obtain ⟨h0, h1, h2, h3, h4, h5, h6, h7, h8, h9, h10, h11, h12⟩ := hagree c
      rw [Cert.ReferenceIdeal.Read.val_main_v173_eq]
      exact congr (congr (congr (congr (congr (congr (congr (congr (congr (congr (congr (congr (congrArg (Cert.ReferenceIdeal.Read.val_main_v173 (F := Ideal)) h0) h1) h2) h3) h4) h5) h6) h7) h8) h9) h10) h11) h12
    · obtain ⟨h0, h1, h2, h3, h4, h5, h6, h7, h8, h9, h10, h11, h12⟩ := hagree c
      rw [Cert.ReferenceIdeal.Read.val_main_v174_eq]
      exact congr (congr (congr (congrArg (Cert.ReferenceIdeal.Read.val_main_v174 (F := Ideal)) h0) h1) h2) h5
    · obtain ⟨h0, h1, h2, h3, h4, h5, h6, h7, h8, h9, h10, h11, h12⟩ := hagree c
      rw [Cert.ReferenceIdeal.Read.val_main_v175_eq]
      exact congr (congr (congrArg (Cert.ReferenceIdeal.Read.val_main_v175 (F := Ideal)) h0) h1) h2

end Cert.MixClaim
-- ==== Proof.MixSame.lean ====
/-
  The second layer's mixer call leaves in its result blocks what the first layer's leaves, from the same blocks.
-/
module

public import proofs.«01_k».proof.Proof.MixFinal
public import proofs.«01_k».proof.Proof.Gen.Kernel3Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixSame

open Cert.KernelIdeal

variable (m' : (ℓ : Loc Cert.Kernel3Ideal.nD Cert.Kernel3Ideal.τ Cert.Kernel3Ideal.sig) → Buf (Elt Ideal) ℓ)
  (m : (ℓ : Loc nD τ sig) → Buf (Elt Ideal) ℓ) (c : Dev nD) (t : Fin cfg0.N)

/-- The two calls' input blocks at a grid point are the same. -/
structure Same : Prop where
  b0 : (show FVec Ideal S256x1024 .f32 from Cert.Kernel3Ideal.Gen.iblk m' c 0 t) = (show FVec Ideal S256x1024 .f32 from Gen.iblk m c 0 t)
  b1 : (show FVec Ideal S1x8x1024 .f32 from Cert.Kernel3Ideal.Gen.iblk m' c 1 t) = (show FVec Ideal S1x8x1024 .f32 from Gen.iblk m c 1 t)
  b2 : (show FVec Ideal S1024x2048 .bf16 from Cert.Kernel3Ideal.Gen.iblk m' c 2 t) = (show FVec Ideal S1024x2048 .bf16 from Gen.iblk m c 2 t)
  b3 : (show FVec Ideal S1024x1024 .bf16 from Cert.Kernel3Ideal.Gen.iblk m' c 3 t) = (show FVec Ideal S1024x1024 .bf16 from Gen.iblk m c 3 t)
  b4 : (show FVec Ideal S1x512 .f32 from Cert.Kernel3Ideal.Gen.iblk m' c 4 t) = (show FVec Ideal S1x512 .f32 from Gen.iblk m c 4 t)
  b5 : (show FVec Ideal S1x128 .f32 from Cert.Kernel3Ideal.Gen.iblk m' c 5 t) = (show FVec Ideal S1x128 .f32 from Gen.iblk m c 5 t)
  b6 : (show FVec Ideal S512x512 .bf16 from Cert.Kernel3Ideal.Gen.iblk m' c 6 t) = (show FVec Ideal S512x512 .bf16 from Gen.iblk m c 6 t)
  b7 : (show FVec Ideal S8x256 .f32 from Cert.Kernel3Ideal.Gen.iblk m' c 7 t) = (show FVec Ideal S8x256 .f32 from Gen.iblk m c 7 t)
  b8 : (show FVec Ideal S1x256 .f32 from Cert.Kernel3Ideal.Gen.iblk m' c 8 t) = (show FVec Ideal S1x256 .f32 from Gen.iblk m c 8 t)
  b9 : (show FVec Ideal S1x256 .f32 from Cert.Kernel3Ideal.Gen.iblk m' c 9 t) = (show FVec Ideal S1x256 .f32 from Gen.iblk m c 9 t)
  b10 : (show FVec Ideal S4x128x128 .bf16 from Cert.Kernel3Ideal.Gen.iblk m' c 10 t) = (show FVec Ideal S4x128x128 .bf16 from Gen.iblk m c 10 t)
  b11 : (show FVec Ideal S128x256 .f32 from Cert.Kernel3Ideal.Gen.iblk m' c 11 t) = (show FVec Ideal S128x256 .f32 from Gen.iblk m c 11 t)
  b12 : (show FVec Ideal S1x1024 .f32 from Cert.Kernel3Ideal.Gen.iblk m' c 12 t) = (show FVec Ideal S1x1024 .f32 from Gen.iblk m c 12 t)
  b13 : (show FVec Ideal S1x1024 .f32 from Cert.Kernel3Ideal.Gen.iblk m' c 13 t) = (show FVec Ideal S1x1024 .f32 from Gen.iblk m c 13 t)

/-- A cast to the shape an array has already. -/
theorem cast_id (b : FVec Ideal S256x1024 .f32) : shapeCast S256x1024 b Gen.shapeCasts_S256x1024_S256x1024 = b := by
  funext i
  pointwise

/-- The two programs project the rows alike. -/
theorem pay_z (b : FVec Ideal S256x1024 .f32) (s h : FVec Ideal S1x1x1024 .f32) (w : FVec Ideal S1024x2048 .bf16) :
    Cert.Kernel3Ideal.Gen.k0_pay1 (F := Ideal) b s h w = Gen.k0_pay2 (F := Ideal) b s h w := by
  unfold Gen.k0_pay2
  dsimp only
  rw [cast_id]
  rfl

/-- The two programs' query columns are the same. -/
theorem pay_q (b : FVec Ideal S256x1024 .f32) (s h : FVec Ideal S1x1x1024 .f32) (w : FVec Ideal S1024x2048 .bf16) :
    Cert.Kernel3Ideal.Gen.k0_pay3 (F := Ideal) b s h w = Gen.k0_pay4 (F := Ideal) b s h w := by
  unfold Cert.Kernel3Ideal.Gen.k0_pay3 Gen.k0_pay4
  rw [pay_z]

/-- … their squares, rounded. -/
theorem pay_q1 (b : FVec Ideal S256x1024 .f32) (s h : FVec Ideal S1x1x1024 .f32) (w : FVec Ideal S1024x2048 .bf16) :
    Cert.Kernel3Ideal.Gen.k0_pay5 (F := Ideal) b s h w = Gen.k0_pay6 (F := Ideal) b s h w := by
  unfold Cert.Kernel3Ideal.Gen.k0_pay5 Gen.k0_pay6 Cert.Kernel3Ideal.Gen.k0_pay4 Gen.k0_pay5
  rw [pay_q]

/-- … what the rounding leaves. -/
theorem pay_q2 (b : FVec Ideal S256x1024 .f32) (s h : FVec Ideal S1x1x1024 .f32) (w : FVec Ideal S1024x2048 .bf16) :
    Cert.Kernel3Ideal.Gen.k0_pay6 (F := Ideal) b s h w = Gen.k0_pay7 (F := Ideal) b s h w := by
  unfold Cert.Kernel3Ideal.Gen.k0_pay6 Gen.k0_pay7
  rw [pay_q1]
  unfold Cert.Kernel3Ideal.Gen.k0_pay4 Gen.k0_pay5
  rw [pay_q]

/-- The two programs' output steps are the same. -/
theorem pay_out (y : FVec Ideal S256x1024 .bf16) (w : FVec Ideal S1024x1024 .bf16) (x : FVec Ideal S256x1024 .f32)
    (s : FVec Ideal S1x1x1024 .f32) (g b : FVec Ideal S1x1024 .f32) :
    Cert.Kernel3Ideal.Gen.k0_pay59 (F := Ideal) y w x s g b
      = Gen.k0_pay1 (F := Ideal) (Gen.k0_pay60 (F := Ideal) y w x s g) (Gen.k0_pay61 (F := Ideal) b) := by
  unfold Gen.k0_pay1 Gen.k0_pay60 Gen.k0_pay61
  dsimp only
  rw [cast_id]
  rfl

/-- The values' blocks. -/
theorem same16 (hs : Same m' m c t) : (Cert.Kernel3Ideal.Gen.outsAt0 m' c t).2.2 = (Gen.outsAt0 m c t).2.2 := by
  unfold Cert.Kernel3Ideal.Gen.outsAt0 Gen.outsAt0
  frame_open
  simp (disch := decide) only [↓ View.readCov_skip, ↓ View.readCov_cons_toLoadRect, ↓ View.readCov_fill]
  frame_out
  obtain ⟨b0, b1, b2, b3, b4, b5, b6, b7, b8, b9, b10, b11, b12, b13⟩ := hs
  dsimp only at b0 b1 b2 b3 b4 b5 b6 b7 b8 b9 b10 b11 b12 b13
  rw [b0, b1, b2, pay_z]
  rfl

/-- The keys' blocks. -/
theorem same15 (hs : Same m' m c t) : (Cert.Kernel3Ideal.Gen.outsAt0 m' c t).2.1 = (Gen.outsAt0 m c t).2.1 := by
  unfold Cert.Kernel3Ideal.Gen.outsAt0 Gen.outsAt0
  frame_open
  simp (disch := decide) only [↓ View.readCov_skip, ↓ View.readCov_cons_toLoadRect, ↓ View.readCov_fill]
  frame_out
  obtain ⟨b0, b1, b2, b3, b4, b5, b6, b7, b8, b9, b10, b11, b12, b13⟩ := hs
  dsimp only at b0 b1 b2 b3 b4 b5 b6 b7 b8 b9 b10 b11 b12 b13
  rw [b0, b1, b2, b5, b6, pay_z]
  rfl

set_option maxHeartbeats 1000000 in
/-- The mixed rows' blocks. -/
theorem same14 (hs : Same m' m c t) : (Cert.Kernel3Ideal.Gen.outsAt0 m' c t).1 = (Gen.outsAt0 m c t).1 := by
  unfold Cert.Kernel3Ideal.Gen.outsAt0 Gen.outsAt0
  frame_open
  simp (disch := decide) only [↓ View.readCov_skip, ↓ View.readCov_cons_toLoadRect, ↓ View.readCov_fill]
  frame_out
  obtain ⟨b0, b1, b2, b3, b4, b5, b6, b7, b8, b9, b10, b11, b12, b13⟩ := hs
  dsimp only at b0 b1 b2 b3 b4 b5 b6 b7 b8 b9 b10 b11 b12 b13
  rw [b0, b1, b2, b3, b4, b5, b6, b7, b8, b9, b10, b11, b12, b13, pay_z, pay_q, pay_q1, pay_q2, pay_out]
  generalize Gen.k0_pay2 (F := Ideal) (Gen.iblk m c 0 t)
        (View.ld (Gen.iblk m c 1 t) (Rect.unit ![0, 1, 0] ![1, 1, 1024] Gen.inb_S1x8x1024_S1x1x1024_0_1_0))
        (View.ld (Gen.iblk m c 1 t) (Rect.unit ![0, 0, 0] ![1, 1, 1024] Gen.inb_S1x8x1024_S1x1x1024_0_0_0))
        (Gen.iblk m c 2 t) = z
  refine congrArg (fun y => Gen.k0_pay1 (F := Ideal) (Gen.k0_pay60 (F := Ideal) y _ _ _ _) _) ?_
  rw [View.readCov_eq_canon', View.readCov_eq_canon']
  funext x
  refine congrArg (fun L => View.canon L _) ?_
  refine congr (congrArg List.cons (congrArg (Sigma.mk _) ?_)) (congr (congrArg List.cons (congrArg (Sigma.mk _) ?_)) (congr (congrArg List.cons (congrArg (Sigma.mk _) ?_)) (congr (congrArg List.cons (congrArg (Sigma.mk _) ?_)) (congr (congrArg List.cons (congrArg (Sigma.mk _) ?_)) (congr (congrArg List.cons (congrArg (Sigma.mk _) ?_)) (congr (congrArg List.cons (congrArg (Sigma.mk _) ?_)) rfl))))))
  · rfl
  · rfl
  · rfl
  · rfl
  · rfl
  · rfl
  · rfl

end Cert.MixSame
-- ==== Proof.MixMem.lean ====
/-
  The second layer's mixer call stages the blocks the first layer's call stages from arrays that agree.
-/
module

public import proofs.«01_k».proof.Proof.MixSame
public import proofs.«01_k».proof.Proof.Gen.Kernel3Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixMem

open Cert.KernelIdeal Cert.KernelIdeal.Gen Cert.Layer Cert.MixBlock Cert.MixSame

variable (m' : (ℓ : Loc Cert.Kernel3Ideal.nD Cert.Kernel3Ideal.τ Cert.Kernel3Ideal.sig) → Buf (Elt Ideal) ℓ)
  (m : (ℓ : Loc nD τ sig) → Buf (Elt Ideal) ℓ) (c : Dev nD) (t : Fin cfg0.N)

/-- The two calls' arguments hold the same arrays, the tokens of the first call being the first rows of the second's. -/
structure Args : Prop where
  h0 : ∀ (t : Fin 32) (r : Fin 256) (k : Fin 1024),
    (show FVec Ideal S10240x1024 .f32 from m' ((c : Thread nD τ).loc Cert.Kernel3Ideal.main_arg0)) (ix2 ⟨t.val * 256 + r.val, by omega⟩ k)
      = A0 m c (ix3 t r k)
  h1 : (show FVec Ideal S3x6x1024 .f32 from m' ((c : Thread nD τ).loc Cert.Kernel3Ideal.main_arg1)) = A1 m c
  h2 : (show FVec Ideal S1024x2048 .f32 from m' ((c : Thread nD τ).loc Cert.Kernel3Ideal.main_arg2)) = A2 m c
  h3 : (show FVec Ideal S1024x1024 .f32 from m' ((c : Thread nD τ).loc Cert.Kernel3Ideal.main_arg3)) = A3 m c
  h4 : (show FVec Ideal S64 .f32 from m' ((c : Thread nD τ).loc Cert.Kernel3Ideal.main_arg4)) = A4 m c
  h5 : (show FVec Ideal S64 .f32 from m' ((c : Thread nD τ).loc Cert.Kernel3Ideal.main_arg5)) = A5 m c
  h6 : (show FVec Ideal S3x256 .f32 from m' ((c : Thread nD τ).loc Cert.Kernel3Ideal.main_arg6)) = A6 m c
  h7 : (show FVec Ideal S256 .f32 from m' ((c : Thread nD τ).loc Cert.Kernel3Ideal.main_arg7)) = A7 m c
  h8 : (show FVec Ideal S256 .f32 from m' ((c : Thread nD τ).loc Cert.Kernel3Ideal.main_arg8)) = A8 m c
  h9 : (show FVec Ideal S4x128x128 .f32 from m' ((c : Thread nD τ).loc Cert.Kernel3Ideal.main_arg9)) = A9 m c
  h10 : (show FVec Ideal S4x128 .f32 from m' ((c : Thread nD τ).loc Cert.Kernel3Ideal.main_arg10)) = A10 m c
  h11 : (show FVec Ideal S1024 .f32 from m' ((c : Thread nD τ).loc Cert.Kernel3Ideal.main_arg11)) = A11 m c
  h12 : (show FVec Ideal S1024 .f32 from m' ((c : Thread nD τ).loc Cert.Kernel3Ideal.main_arg12)) = A12 m c

/-- The staged arrays are the same. -/
theorem V_same (h : Args m' m c) :
    (show FVec Ideal S3x8x1024 .f32 from Cert.Kernel3Ideal.Gen.V m' c Cert.Kernel3Ideal.main_v0) = (show FVec Ideal S3x8x1024 .f32 from V m c main_v0)
    ∧ (show FVec Ideal S1024x2048 .bf16 from Cert.Kernel3Ideal.Gen.V m' c Cert.Kernel3Ideal.main_v9) = (show FVec Ideal S1024x2048 .bf16 from V m c main_v10)
    ∧ (show FVec Ideal S1024x1024 .bf16 from Cert.Kernel3Ideal.Gen.V m' c Cert.Kernel3Ideal.main_v10) = (show FVec Ideal S1024x1024 .bf16 from V m c main_v11)
    ∧ (show FVec Ideal S1x512 .f32 from Cert.Kernel3Ideal.Gen.V m' c Cert.Kernel3Ideal.main_v14) = (show FVec Ideal S1x512 .f32 from V m c main_v15)
    ∧ (show FVec Ideal S1x128 .f32 from Cert.Kernel3Ideal.Gen.V m' c Cert.Kernel3Ideal.main_v18) = (show FVec Ideal S1x128 .f32 from V m c main_v19)
    ∧ (show FVec Ideal S512x512 .bf16 from Cert.Kernel3Ideal.Gen.V m' c Cert.Kernel3Ideal.main_v8) = (show FVec Ideal S512x512 .bf16 from V m c main_v8)
    ∧ (show FVec Ideal S8x256 .f32 from Cert.Kernel3Ideal.Gen.V m' c Cert.Kernel3Ideal.main_v19) = (show FVec Ideal S8x256 .f32 from V m c main_v20)
    ∧ (show FVec Ideal S1x256 .f32 from Cert.Kernel3Ideal.Gen.V m' c Cert.Kernel3Ideal.main_v20) = (show FVec Ideal S1x256 .f32 from V m c main_v21)
    ∧ (show FVec Ideal S1x256 .f32 from Cert.Kernel3Ideal.Gen.V m' c Cert.Kernel3Ideal.main_v21) = (show FVec Ideal S1x256 .f32 from V m c main_v22)
    ∧ (show FVec Ideal S4x128x128 .bf16 from Cert.Kernel3Ideal.Gen.V m' c Cert.Kernel3Ideal.main_v22) = (show FVec Ideal S4x128x128 .bf16 from V m c main_v23)
    ∧ (show FVec Ideal S128x256 .f32 from Cert.Kernel3Ideal.Gen.V m' c Cert.Kernel3Ideal.main_v25) = (show FVec Ideal S128x256 .f32 from V m c main_v26)
    ∧ (show FVec Ideal S1x1024 .f32 from Cert.Kernel3Ideal.Gen.V m' c Cert.Kernel3Ideal.main_v26) = (show FVec Ideal S1x1024 .f32 from V m c main_v27)
    ∧ (show FVec Ideal S1x1024 .f32 from Cert.Kernel3Ideal.Gen.V m' c Cert.Kernel3Ideal.main_v27) = (show FVec Ideal S1x1024 .f32 from V m c main_v28) := by
  refine ⟨?_, ?_, ?_, ?_, ?_, ?_, ?_, ?_, ?_, ?_, ?_, ?_, ?_⟩
  all_goals
    simp only [V, hostOps0, hostOps0_1, hostOps0_2, hostOps0_3, hostOps0_4, hostOps0_5, hostOps0_6, Cert.Kernel3Ideal.Gen.V, Cert.Kernel3Ideal.Gen.hostOps0, Cert.Kernel3Ideal.Gen.hostOps0_1, Cert.Kernel3Ideal.Gen.hostOps0_2, Cert.Kernel3Ideal.Gen.hostOps0_3, Cert.Kernel3Ideal.Gen.hostOps0_4, Cert.Kernel3Ideal.Gen.hostOps0_5, Cert.Kernel3Ideal.Gen.hostOps0_6,
      List.flatten_cons, List.flatten_nil, List.append_nil, List.cons_append, List.nil_append]
    entry_read
  · rw [show m' (c, Proc.tc.devRef Cert.Kernel3Ideal.main_arg1) = m (c, Proc.tc.devRef main_arg1) from h.h1] <;> rfl
  · rw [show m' (c, Proc.tc.devRef Cert.Kernel3Ideal.main_arg2) = m (c, Proc.tc.devRef main_arg2) from h.h2] <;> rfl
  · rw [show m' (c, Proc.tc.devRef Cert.Kernel3Ideal.main_arg3) = m (c, Proc.tc.devRef main_arg3) from h.h3] <;> rfl
  · rw [show m' (c, Proc.tc.devRef Cert.Kernel3Ideal.main_arg4) = m (c, Proc.tc.devRef main_arg4) from h.h4] <;> rfl
  · rw [show m' (c, Proc.tc.devRef Cert.Kernel3Ideal.main_arg5) = m (c, Proc.tc.devRef main_arg5) from h.h5] <;> rfl
  · rfl
  · rw [show m' (c, Proc.tc.devRef Cert.Kernel3Ideal.main_arg6) = m (c, Proc.tc.devRef main_arg6) from h.h6] <;> rfl
  · rw [show m' (c, Proc.tc.devRef Cert.Kernel3Ideal.main_arg7) = m (c, Proc.tc.devRef main_arg7) from h.h7] <;> rfl
  · rw [show m' (c, Proc.tc.devRef Cert.Kernel3Ideal.main_arg8) = m (c, Proc.tc.devRef main_arg8) from h.h8] <;> rfl
  · rw [show m' (c, Proc.tc.devRef Cert.Kernel3Ideal.main_arg9) = m (c, Proc.tc.devRef main_arg9) from h.h9] <;> rfl
  · rw [show m' (c, Proc.tc.devRef Cert.Kernel3Ideal.main_arg10) = m (c, Proc.tc.devRef main_arg10) from h.h10] <;> rfl
  · rw [show m' (c, Proc.tc.devRef Cert.Kernel3Ideal.main_arg11) = m (c, Proc.tc.devRef main_arg11) from h.h11] <;> rfl
  · rw [show m' (c, Proc.tc.devRef Cert.Kernel3Ideal.main_arg12) = m (c, Proc.tc.devRef main_arg12) from h.h12] <;> rfl

/-- Where the token window's block lies at a grid point. -/
theorem idx3 : ∀ t : Fin Cert.Kernel3Ideal.cfg0.N, Cert.Kernel3Ideal.win0_0.index t = ![t.val, 0] :=
  (by decide +kernel : ∀ t : Fin Cert.Kernel3Ideal.grid0.N, _)

/-- The token blocks are the same. -/
theorem tok_same (h : Args m' m c) :
    (show FVec Ideal S256x1024 .f32 from Cert.Kernel3Ideal.Gen.iblk m' c 0 t) = (show FVec Ideal S256x1024 .f32 from iblk m c 0 t) := by
  funext y
  obtain ⟨r, k, rfl⟩ : ∃ (r : Fin 256) (k : Fin 1024), y = ix2 r k := ⟨y 0, y 1, eq_ix2 y⟩
  refine Eq.trans ?_ ((h.h0 ⟨t.val, lt t⟩ r k).trans (blk0_at m c t r k).symm)
  refine Eq.trans ?_ (congrFun (Cert.Kernel3Ideal.Gen.V_main_arg0 m' c) _)
  blk_ext [Cert.Kernel3Ideal.Gen.iblk, idx3 t]

/-- The blocks of every grid point are the same. -/
theorem same (h : Args m' m c) : Same m' m c t := by
  obtain ⟨e1, e2, e3, e4, e5, e6, e7, e8, e9, e10, e11, e12, e13⟩ := V_same m' m c h
  exact ⟨tok_same m' m c t h,
    congrArg (((cfg0.win 1).blk t).view.read (Elt Ideal)) e1,
    congrArg (((cfg0.win 2).blk t).view.read (Elt Ideal)) e2,
    congrArg (((cfg0.win 3).blk t).view.read (Elt Ideal)) e3,
    congrArg (((cfg0.win 4).blk t).view.read (Elt Ideal)) e4,
    congrArg (((cfg0.win 5).blk t).view.read (Elt Ideal)) e5,
    congrArg (((cfg0.win 6).blk t).view.read (Elt Ideal)) e6,
    congrArg (((cfg0.win 7).blk t).view.read (Elt Ideal)) e7,
    congrArg (((cfg0.win 8).blk t).view.read (Elt Ideal)) e8,
    congrArg (((cfg0.win 9).blk t).view.read (Elt Ideal)) e9,
    congrArg (((cfg0.win 10).blk t).view.read (Elt Ideal)) e10,
    congrArg (((cfg0.win 11).blk t).view.read (Elt Ideal)) e11,
    congrArg (((cfg0.win 12).blk t).view.read (Elt Ideal)) e12,
    congrArg (((cfg0.win 13).blk t).view.read (Elt Ideal)) e13⟩

/-- There is a memory of the first call holding given arrays as its arguments. -/
theorem exists_mem (c : Dev nD) (x0 : FVec Ideal S32x256x1024 .f32) (x1 : FVec Ideal S3x6x1024 .f32) (x2 : FVec Ideal S1024x2048 .f32)
    (x3 : FVec Ideal S1024x1024 .f32) (x4 x5 : FVec Ideal S64 .f32) (x6 : FVec Ideal S3x256 .f32) (x7 x8 : FVec Ideal S256 .f32)
    (x9 : FVec Ideal S4x128x128 .f32) (x10 : FVec Ideal S4x128 .f32) (x11 x12 : FVec Ideal S1024 .f32) :
    ∃ m : (ℓ : Loc nD τ sig) → Buf (Elt Ideal) ℓ, A0 m c = x0 ∧ A1 m c = x1 ∧ A2 m c = x2 ∧ A3 m c = x3 ∧ A4 m c = x4
      ∧ A5 m c = x5 ∧ A6 m c = x6 ∧ A7 m c = x7 ∧ A8 m c = x8 ∧ A9 m c = x9 ∧ A10 m c = x10 ∧ A11 m c = x11 ∧ A12 m c = x12 := by
  classical
  let m0 : (ℓ : Loc nD τ sig) → Buf (Elt Ideal) ℓ := fun ℓ => fun _ => Classical.arbitrary _
  refine ⟨Function.update (Function.update (Function.update (Function.update (Function.update (Function.update (Function.update
    (Function.update (Function.update (Function.update (Function.update (Function.update (Function.update m0
    ((c : Thread nD τ).loc main_arg0) x0) ((c : Thread nD τ).loc main_arg1) x1) ((c : Thread nD τ).loc main_arg2) x2)
    ((c : Thread nD τ).loc main_arg3) x3) ((c : Thread nD τ).loc main_arg4) x4) ((c : Thread nD τ).loc main_arg5) x5)
    ((c : Thread nD τ).loc main_arg6) x6) ((c : Thread nD τ).loc main_arg7) x7) ((c : Thread nD τ).loc main_arg8) x8)
    ((c : Thread nD τ).loc main_arg9) x9) ((c : Thread nD τ).loc main_arg10) x10) ((c : Thread nD τ).loc main_arg11) x11)
    ((c : Thread nD τ).loc main_arg12) x12, ?_, ?_, ?_, ?_, ?_, ?_, ?_, ?_, ?_, ?_, ?_, ?_, ?_⟩
  all_goals
    dsimp only [A0, A1, A2, A3, A4, A5, A6, A7, A8, A9, A10, A11, A12]
    repeat refine (Function.update_of_ne (fun h => StableHlo.devRef_ne_of_ne (by decide) (congrArg Prod.snd h)) _ _).trans ?_
    exact Function.update_self ..

end Cert.MixMem
-- ==== Proof.MixSecond.lean ====
/-
  The second layer's mixer call computes its reference on the rows it writes, from finite arrays.
-/
module

public import proofs.«01_k».proof.Defs
public import proofs.«01_k».proof.Proof.MixMem
public import proofs.«01_k».proof.Proof.MixPre
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixSecond

open Cert.KernelIdeal Cert.KernelIdeal.Gen Cert.Layer Cert.MixBlock Cert.MixSame Cert.MixMem Cert.MixFinal Cert.MixOut Cert.Mix

/-- The tokens the second call takes: the first 8192 rows, one sequence each 256. -/
abbrev tok (x : FVec Ideal S10240x1024 .f32) : FVec Ideal S32x256x1024 .f32 := Cert.Reference3Ideal.Read.val_main_v1 (F := Ideal) x

/-- A row of a sequence is the array's row at the sequence's place. -/
theorem tok_at (x : FVec Ideal S10240x1024 .f32) (t : Fin 32) (r : Fin 256) (k : Fin 1024) :
    tok x (ix3 t r k) = x (ix2 ⟨t.val * 256 + r.val, by omega⟩ k) := by
  unfold tok Cert.Reference3Ideal.Read.val_main_v1 Cert.Reference3Ideal.Read.val_main_v0
  pointwise

section Refs

variable (x0 : FVec Ideal S10240x1024 .f32) (x1 : FVec Ideal S3x6x1024 .f32) (x2 : FVec Ideal S1024x2048 .f32)
    (x3 : FVec Ideal S1024x1024 .f32) (x4 x5 : FVec Ideal S64 .f32) (x6 : FVec Ideal S3x256 .f32) (x7 x8 : FVec Ideal S256 .f32)
    (x9 : FVec Ideal S4x128x128 .f32) (x10 : FVec Ideal S4x128 .f32) (x11 x12 : FVec Ideal S1024 .f32)

/-- The second reference's values are the first's, of the first rows. -/
theorem ref2 : Cert.Reference3Ideal.Read.val_main_v177 (F := Ideal) x0 x1 x2 = REF2 (tok x0) x1 x2 := rfl

/-- Its keys likewise. -/
theorem ref1 : Cert.Reference3Ideal.Read.val_main_v176 (F := Ideal) x0 x1 x2 x5 = REF1 (tok x0) x1 x2 x5 := rfl

/-- Its mixed rows likewise. -/
theorem ref0 : Cert.Reference3Ideal.Read.val_main_v175 (F := Ideal) x0 x1 x2 x3 x4 x5 x6 x7 x8 x9 x10 x11 x12
    = REF0 (tok x0) x1 x2 x3 x4 x5 x6 x7 x8 x9 x10 x11 x12 := rfl

/-- The second precondition is the first's, of the first rows. -/
theorem pre_eq [Cert.Pre_finite_all.Facts] [Cert.Pre_finite.Facts] :
    Cert.Pre_finite_all.fn (F := Ideal) x0 x1 x2 x3 x4 x5 x6 x7 x8 x9 x10 x11 x12
      = Cert.Pre_finite.fn (F := Ideal) (tok x0) x1 x2 x3 x4 x5 x6 x7 x8 x9 x10 x11 x12 := rfl

/-- The second mask is the first's. -/
theorem mask_eq [Cert.On_context_rows_all.Facts] [Cert.On_context_rows.Facts] :
    Cert.On_context_rows_all.fn (F := Ideal) x0 x1 x2 x3 x4 x5 x6 x7 x8 x9 x10 x11 x12
      = Cert.On_context_rows.fn (F := Ideal) (tok x0) x1 x2 x3 x4 x5 x6 x7 x8 x9 x10 x11 x12 := rfl

end Refs

section Final

variable (m' : (ℓ : Loc Cert.Kernel3Ideal.nD Cert.Kernel3Ideal.τ Cert.Kernel3Ideal.sig) → Buf (Elt Ideal) ℓ)
  (m : (ℓ : Loc nD τ sig) → Buf (Elt Ideal) ℓ) (c : Dev nD) (h : Args m' m c)

/-- Where the result windows' blocks lie at a grid point. -/
theorem idxo : ∀ t : Fin Cert.Kernel3Ideal.cfg0.N, Cert.Kernel3Ideal.win0_14.index t = ![t.val, 0]
    ∧ Cert.Kernel3Ideal.win0_15.index t = ![t.val, 0] ∧ Cert.Kernel3Ideal.win0_16.index t = ![t.val, 0] :=
  (by decide +kernel : ∀ t : Fin Cert.Kernel3Ideal.grid0.N, _)

include h

/-- The keys after the second call's run are those of the first's reference. -/
theorem keys (hZ : ∀ t r n, Rl (ZT m c t r n)) :
    (Cert.Kernel3Ideal.Gen.dats m' 0 c).arrAt 15 (Cert.Kernel3Ideal.cfgs 0).N = REF1 (A0 m c) (A1 m c) (A2 m c) (A5 m c) := by
  refine (Cert.Kernel3Ideal.Gen.dats m' 0 c).arrAt_eq_of_covers 15 _ (by decide +kernel) fun t _ y => ?_
  blk_simp
  rw [Cert.Kernel3Ideal.Gen.after0_15, same15 m' m c t (same m' m c t h)]
  obtain ⟨r, j, rfl⟩ : ∃ (r : Fin 256) (j : Fin 128), y = ix2 r j := ⟨y 0, y 1, eq_ix2 y⟩
  have hl : t.val * 256 + r.val < 8192 := by have := lt t; omega
  refine (point15 m c t (hZ t) r j hl).trans (congrArg _ ?_)
  blk_ext [idxo t]

/-- The values after the second call's run are those of the first's reference. -/
theorem values (hZ : ∀ t r n, Rl (ZT m c t r n)) :
    (Cert.Kernel3Ideal.Gen.dats m' 0 c).arrAt 16 (Cert.Kernel3Ideal.cfgs 0).N = REF2 (A0 m c) (A1 m c) (A2 m c) := by
  refine (Cert.Kernel3Ideal.Gen.dats m' 0 c).arrAt_eq_of_covers 16 _ (by decide +kernel) fun t _ y => ?_
  blk_simp
  rw [Cert.Kernel3Ideal.Gen.after0_16, same16 m' m c t (same m' m c t h)]
  obtain ⟨r, j, rfl⟩ : ∃ (r : Fin 256) (j : Fin 128), y = ix2 r j := ⟨y 0, y 1, eq_ix2 y⟩
  have hl : t.val * 256 + r.val < 8192 := by have := lt t; omega
  refine (point16 m c t (hZ t) r j hl).trans (congrArg _ ?_)
  blk_ext [idxo t]

/-- The mixed rows after the second call's run are those of the first's reference, on the rows below 8192. -/
theorem rows (hZ : ∀ t r n, Rl (ZT m c t r n)) (h4 : ∀ i, Rl (A4 m c i)) (h5 : ∀ i, Rl (A5 m c i))
    (i : S10240x1024.Idx) (hi : (i 0 : ℕ) < 8192) :
    (Cert.Kernel3Ideal.Gen.dats m' 0 c).arrAt 14 (Cert.Kernel3Ideal.cfgs 0).N i = REF0 (A0 m c) (A1 m c) (A2 m c) (A3 m c) (A4 m c) (A5 m c) (A6 m c) (A7 m c) (A8 m c) (A9 m c) (A10 m c) (A11 m c) (A12 m c) i := by
  have e : (Cert.Kernel3Ideal.Gen.dats m' 0 c).arrAt 14 (Cert.Kernel3Ideal.cfgs 0).N = fun i : S10240x1024.Idx =>
      if (i 0 : ℕ) < 8192 then REF0 (A0 m c) (A1 m c) (A2 m c) (A3 m c) (A4 m c) (A5 m c) (A6 m c) (A7 m c) (A8 m c) (A9 m c) (A10 m c) (A11 m c) (A12 m c) i
      else (Cert.Kernel3Ideal.Gen.dats m' 0 c).A 14 i := by
    refine (Cert.Kernel3Ideal.Gen.dats m' 0 c).arrAt_eq_of_coversWhere 14 _ (fun β => β (0 : Fin 2) < 32) (by decide +kernel)
      (fun t hf y => ?_) (fun j => by blk_simp [Pipeline.Window.cell_apply]; omega)
    blk_simp
    rw [Cert.Kernel3Ideal.Gen.after0_14, same14 m' m c t (same m' m c t h)]
    obtain ⟨r, j, rfl⟩ : ∃ (r : Fin 256) (j : Fin 1024), y = ix2 r j := ⟨y 0, y 1, eq_ix2 y⟩
    have hl : t.val * 256 + r.val < 10240 := by have := lt t; omega
    refine (point14 m c t (hZ t) h4 h5 r j hl).trans (congrArg _ ?_)
    blk_ext [idxo t]
  exact (congrFun e i).trans (if_pos hi)

end Final

section Claim

variable (m' : (ℓ : Loc Cert.Kernel3Ideal.nD Cert.Kernel3Ideal.τ Cert.Kernel3Ideal.sig) → Buf (Elt Ideal) ℓ) (c : Dev nD)

/-! ## The second call's argument arrays -/

abbrev B0 : FVec Ideal S10240x1024 .f32 := m' ((c : Thread nD τ).loc Cert.Kernel3Ideal.main_arg0)
abbrev B1 : FVec Ideal S3x6x1024 .f32 := m' ((c : Thread nD τ).loc Cert.Kernel3Ideal.main_arg1)
abbrev B2 : FVec Ideal S1024x2048 .f32 := m' ((c : Thread nD τ).loc Cert.Kernel3Ideal.main_arg2)
abbrev B3 : FVec Ideal S1024x1024 .f32 := m' ((c : Thread nD τ).loc Cert.Kernel3Ideal.main_arg3)
abbrev B4 : FVec Ideal S64 .f32 := m' ((c : Thread nD τ).loc Cert.Kernel3Ideal.main_arg4)
abbrev B5 : FVec Ideal S64 .f32 := m' ((c : Thread nD τ).loc Cert.Kernel3Ideal.main_arg5)
abbrev B6 : FVec Ideal S3x256 .f32 := m' ((c : Thread nD τ).loc Cert.Kernel3Ideal.main_arg6)
abbrev B7 : FVec Ideal S256 .f32 := m' ((c : Thread nD τ).loc Cert.Kernel3Ideal.main_arg7)
abbrev B8 : FVec Ideal S256 .f32 := m' ((c : Thread nD τ).loc Cert.Kernel3Ideal.main_arg8)
abbrev B9 : FVec Ideal S4x128x128 .f32 := m' ((c : Thread nD τ).loc Cert.Kernel3Ideal.main_arg9)
abbrev B10 : FVec Ideal S4x128 .f32 := m' ((c : Thread nD τ).loc Cert.Kernel3Ideal.main_arg10)
abbrev B11 : FVec Ideal S1024 .f32 := m' ((c : Thread nD τ).loc Cert.Kernel3Ideal.main_arg11)
abbrev B12 : FVec Ideal S1024 .f32 := m' ((c : Thread nD τ).loc Cert.Kernel3Ideal.main_arg12)

/-- There is a memory of the first call whose arguments are the second's, with the first rows for tokens. -/
theorem exists_args : ∃ m : (ℓ : Loc nD τ sig) → Buf (Elt Ideal) ℓ, Args m' m c ∧ A0 m c = tok (B0 m' c) := by
  obtain ⟨m, e0, e1, e2, e3, e4, e5, e6, e7, e8, e9, e10, e11, e12⟩ := exists_mem c (tok (B0 m' c)) (B1 m' c) (B2 m' c) (B3 m' c) (B4 m' c) (B5 m' c) (B6 m' c) (B7 m' c) (B8 m' c) (B9 m' c) (B10 m' c) (B11 m' c) (B12 m' c)
  exact ⟨m, ⟨fun t r k => ((congrFun e0 _).trans (tok_at _ t r k)).symm, e1.symm, e2.symm, e3.symm, e4.symm, e5.symm, e6.symm,
    e7.symm, e8.symm, e9.symm, e10.symm, e11.symm, e12.symm⟩, e0⟩

/-- What the second call leaves in its three results, from finite arrays. -/
theorem results [Cert.Pre_finite_all.Facts] [Cert.Pre_finite.Facts]
    (hpre : Cert.Pre_finite_all.fn (F := Ideal) (B0 m' c) (B1 m' c) (B2 m' c) (B3 m' c) (B4 m' c) (B5 m' c) (B6 m' c) (B7 m' c) (B8 m' c) (B9 m' c) (B10 m' c) (B11 m' c) (B12 m' c) = fun _ => 1#1) :
    (∀ i : S10240x1024.Idx, (i 0 : ℕ) < 8192 → (Cert.Kernel3Ideal.Gen.dats m' 0 c).arrAt 14 (Cert.Kernel3Ideal.cfgs 0).N i
        = REF0 (tok (B0 m' c)) (B1 m' c) (B2 m' c) (B3 m' c) (B4 m' c) (B5 m' c) (B6 m' c) (B7 m' c) (B8 m' c) (B9 m' c) (B10 m' c) (B11 m' c) (B12 m' c) i)
      ∧ (Cert.Kernel3Ideal.Gen.dats m' 0 c).arrAt 15 (Cert.Kernel3Ideal.cfgs 0).N = REF1 (tok (B0 m' c)) (B1 m' c) (B2 m' c) (B5 m' c)
      ∧ (Cert.Kernel3Ideal.Gen.dats m' 0 c).arrAt 16 (Cert.Kernel3Ideal.cfgs 0).N = REF2 (tok (B0 m' c)) (B1 m' c) (B2 m' c) := by
  rw [pre_eq] at hpre
  have hfin := Cert.MixPre.finite_apply _ _ _ _ _ _ _ _ _ _ _ _ _ hpre
  obtain ⟨m, h, e0⟩ := exists_args m' c
  have e1 : B1 m' c = A1 m c := h.h1
  have e2 : B2 m' c = A2 m c := h.h2
  have e3 : B3 m' c = A3 m c := h.h3
  have e4 : B4 m' c = A4 m c := h.h4
  have e5 : B5 m' c = A5 m c := h.h5
  have e6 : B6 m' c = A6 m c := h.h6
  have e7 : B7 m' c = A7 m c := h.h7
  have e8 : B8 m' c = A8 m c := h.h8
  have e9 : B9 m' c = A9 m c := h.h9
  have e10 : B10 m' c = A10 m c := h.h10
  have e11 : B11 m' c = A11 m c := h.h11
  have e12 : B12 m' c = A12 m c := h.h12
  rw [← e0, e1, e2, e4, e5] at hfin
  rw [← e0, e1, e2, e3, e4, e5, e6, e7, e8, e9, e10, e11, e12]
  have hZ := rl_Z m c hfin.1 hfin.2.1 hfin.2.2.1
  exact ⟨fun i hi => rows m' m c h hZ hfin.2.2.2.1 hfin.2.2.2.2 i hi, keys m' m c h hZ, values m' m c h hZ⟩

end Claim

/-- From memories agreeing on the arguments, finite where the precondition asks it, the second layer's call and its
    reference end with the same three result arrays where the mask is set. -/
theorem algebraic [Cert.Kernel3Ideal.Facts] [Cert.Reference3Ideal.Facts] [Cert.Pre_finite_all.Facts] [Cert.On_context_rows_all.Facts]
    [Cert.Pre_finite.Facts] [Cert.On_context_rows.Facts] :
    Cert.algebraic_Kernel3Ideal_Reference3Ideal_on_context_rows_all_pre_finite_all := by
  intro m' g m'' g' hpre hagree
  have hres := fun c => results m' c (hpre c)
  refine ⟨fun c => REF0 (tok (B0 m' c)) (B1 m' c) (B2 m' c) (B3 m' c) (B4 m' c) (B5 m' c) (B6 m' c) (B7 m' c) (B8 m' c) (B9 m' c) (B10 m' c) (B11 m' c) (B12 m' c),
      fun c => REF1 (tok (B0 m' c)) (B1 m' c) (B2 m' c) (B5 m' c), fun c => REF2 (tok (B0 m' c)) (B1 m' c) (B2 m' c), ?_, ?_⟩
  · refine (θ_run Cert.Kernel3Ideal.defs _ _).mono (fun _ h c => ⟨fun i hi => ?_, fun i _ => ?_, fun i _ => ?_, (h c).2.2.2⟩)
      (Cert.Kernel3Ideal.Value.run_blocks m' g)
    · rw [mask_eq] at hi
      exact (congrFun (h c).1 i).trans ((hres c).1 i (Cert.MixPre.row_lt _ _ _ _ _ _ _ _ _ _ _ _ _ i hi))
    · exact congrFun ((h c).2.1.trans (hres c).2.1) i
    · exact congrFun ((h c).2.2.1.trans (hres c).2.2) i
  · refine (θ_run Cert.Reference3Ideal.defs _ _).mono (fun _ h c => ⟨fun i _ => congrFun ((h c).1.trans ?_) i,
      fun i _ => congrFun ((h c).2.1.trans ?_) i, fun i _ => congrFun ((h c).2.2.1.trans ?_) i, (h c).2.2.2⟩)
      (Cert.Reference3Ideal.Value.run m'' g')
    · obtain ⟨h0, h1, h2, h3, h4, h5, h6, h7, h8, h9, h10, h11, h12⟩ := hagree c
      rw [Cert.Reference3Ideal.Read.val_main_v175_eq]
      exact (congr (congr (congr (congr (congr (congr (congr (congr (congr (congr (congr (congr (congrArg (Cert.Reference3Ideal.Read.val_main_v175 (F := Ideal)) h0) h1) h2) h3) h4) h5) h6) h7) h8) h9) h10) h11) h12).trans (ref0 _ _ _ _ _ _ _ _ _ _ _ _ _)
    · obtain ⟨h0, h1, h2, h3, h4, h5, h6, h7, h8, h9, h10, h11, h12⟩ := hagree c
      rw [Cert.Reference3Ideal.Read.val_main_v176_eq]
      exact (congr (congr (congr (congrArg (Cert.Reference3Ideal.Read.val_main_v176 (F := Ideal)) h0) h1) h2) h5).trans (ref1 _ _ _ _)
    · obtain ⟨h0, h1, h2, h3, h4, h5, h6, h7, h8, h9, h10, h11, h12⟩ := hagree c
      rw [Cert.Reference3Ideal.Read.val_main_v177_eq]
      exact (congr (congr (congrArg (Cert.Reference3Ideal.Read.val_main_v177 (F := Ideal)) h0) h1) h2).trans (ref2 _ _ _)

end Cert.MixSecond
-- ==== Proof.ModHost.lean ====
/-
  The conditioning rows as the modulation call's host part makes them: the context's vector first, then each latent
  sequence's, then zeros.
-/
module

public import proofs.«01_k».proof.Proof.Gen.Kernel4Ideal.Value
public import Idealize.ShloMosaic.Lib.Routing.OpsSet
public import Idealize.ShloMosaic.Lib.Routing.OpsPair
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Routing

namespace Cert.ModHost

open Cert.Kernel4Ideal Cert.Kernel4Ideal.Gen

/-- The conditioning rows: the context's vector, the two sequences' vectors, and five rows of zeros. -/
def condRows (c : FVec Ideal S2x1024 .f32) (ctx : FVec Ideal S1024 .f32) (r : Fin 8) (k : Fin 1024) : EReal :=
  if r.val = 0 then ctx (ix1 k) else if h : r.val - 1 < 2 then c (ix2 ⟨r.val - 1, h⟩ k) else 0

/-- The start of an update on the rows' axis is the index word. -/
theorem start1 (idx : IVec S1 32) (j : S1024.Idx) : scatter_S8x1024_S1_S1024_0_0_0_0.start j idx 0 = (idx (ix1 0)).toInt := by
  unfold ScatterDims.start
  rw [dif_pos (show (0 : Fin 2) ∈ scatter_S8x1024_S1_S1024_0_0_0_0.scatterDimsToOperandDims from List.mem_singleton.2 rfl)]
  exact congrArg (fun i => (idx i).toInt) (funext fun b => by match b with | ⟨0, _⟩ => exact Subsingleton.elim (α := Fin 1) _ _)

theorem start2 (idx : IVec S1 32) (j : S2x1024.Idx) : scatter_S8x1024_S1_S2x1024_01_n_0_0.start j idx 0 = (idx (ix1 0)).toInt := by
  unfold ScatterDims.start
  rw [dif_pos (show (0 : Fin 2) ∈ scatter_S8x1024_S1_S2x1024_01_n_0_0.scatterDimsToOperandDims from List.mem_singleton.2 rfl)]
  exact congrArg (fun i => (idx i).toInt) (funext fun b => by match b with | ⟨0, _⟩ => exact Subsingleton.elim (α := Fin 1) _ _)

/-- Where an entry of a vector written over one row lands. -/
theorem lands1 (idx : IVec S1 32) (hi : (idx (ix1 0)).toInt = 0) (q k : Fin 1024) (r : Fin 8) :
    scatter_S8x1024_S1_S1024_0_0_0_0.resultIdx? (ix1 q) idx = some (ix2 r k) ↔ r.val = 0 ∧ q = k := by
  have h0 := (start1 idx (ix1 q)).trans hi
  have h1 : scatter_S8x1024_S1_S1024_0_0_0_0.start (ix1 q) idx 1 = 0 := rfl
  have w0 : scatter_S8x1024_S1_S1024_0_0_0_0.window (ix1 q) 0 = 0 := rfl
  have w1 : scatter_S8x1024_S1_S1024_0_0_0_0.window (ix1 q) 1 = q.val := rfl
  refine (resultIdx?_ix2 (R := 8) (C := 1024) scatter_S8x1024_S1_S1024_0_0_0_0 (ix1 q) idx r k).trans ?_
  rw [Fin.ext_iff, h0, h1, w0, w1]
  omega

/-- Where an entry of two rows written over two rows lands. -/
theorem lands2 (idx : IVec S1 32) (hi : (idx (ix1 0)).toInt = 1) (p : Fin 2) (q k : Fin 1024) (r : Fin 8) :
    scatter_S8x1024_S1_S2x1024_01_n_0_0.resultIdx? (ix2 p q) idx = some (ix2 r k) ↔ r.val = 1 + p.val ∧ q = k := by
  have h0 := (start2 idx (ix2 p q)).trans hi
  have h1 : scatter_S8x1024_S1_S2x1024_01_n_0_0.start (ix2 p q) idx 1 = 0 := rfl
  have w0 : scatter_S8x1024_S1_S2x1024_01_n_0_0.window (ix2 p q) 0 = p.val := rfl
  have w1 : scatter_S8x1024_S1_S2x1024_01_n_0_0.window (ix2 p q) 1 = q.val := rfl
  refine (resultIdx?_ix2 (R := 8) (C := 1024) scatter_S8x1024_S1_S2x1024_01_n_0_0 (ix2 p q) idx r k).trans ?_
  rw [Fin.ext_iff, h0, h1, w0, w1]
  omega

/-- The rows after both writes, at coordinates. -/
theorem rows_at (z : FVec Ideal S8x1024 .f32) (hz : ∀ i, z i = (0 : EReal)) (i0 i1 : IVec S1 32) (h0 : (i0 (ix1 0)).toInt = 0)
    (h1 : (i1 (ix1 0)).toInt = 1) (c : FVec Ideal S2x1024 .f32) (ctx : FVec Ideal S1024 .f32) (r : Fin 8) (k : Fin 1024) :
    Host.scatter scatter_S8x1024_S1_S2x1024_01_n_0_0 (fun _ b => b)
      (Host.scatter scatter_S8x1024_S1_S1024_0_0_0_0 (fun _ b => b) z i0 ctx) i1 c (ix2 r k) = condRows c ctx r k := by
  have l2 : ∀ j : S2x1024.Idx, scatter_S8x1024_S1_S2x1024_01_n_0_0.resultIdx? j i1 = some (ix2 r k) → r.val = 1 + (j 0).val ∧ j 1 = k :=
    fun j hj => (lands2 i1 h1 (j 0) (j 1) k r).1 ((congrArg (fun t => scatter_S8x1024_S1_S2x1024_01_n_0_0.resultIdx? t i1) (eq_ix2 j).symm).trans hj)
  have l1 : ∀ j : S1024.Idx, scatter_S8x1024_S1_S1024_0_0_0_0.resultIdx? j i0 = some (ix2 r k) → r.val = 0 ∧ j 0 = k :=
    fun j hj => (lands1 i0 h0 (j 0) k r).1 ((congrArg (fun t => scatter_S8x1024_S1_S1024_0_0_0_0.resultIdx? t i0) (eq_ix1 j).symm).trans hj)
  unfold condRows
  by_cases hr : r.val = 0
  · rw [if_pos hr]
    refine (scatter_set_miss _ _ _ _ _ fun j hj => by have := (l2 j hj).1; omega).trans ?_
    exact scatter_set_hit _ _ _ _ _ _ (fun j hj => congrArg ctx ((eq_ix1 j).trans (congrArg ix1 (l1 j hj).2))) (ix1 k)
      ((lands1 i0 h0 k k r).2 ⟨hr, rfl⟩)
  · rw [if_neg hr]
    by_cases h : r.val - 1 < 2
    · rw [dif_pos h]
      refine scatter_set_hit _ _ _ _ _ _ (fun j hj => congrArg c ((eq_ix2 j).trans ?_)) (ix2 ⟨r.val - 1, h⟩ k)
        ((lands2 i1 h1 ⟨r.val - 1, h⟩ k k r).2 ⟨by simp only; omega, rfl⟩)
      exact congr (congrArg ix2 (Fin.ext (by have := (l2 j hj).1; simp only; omega))) (l2 j hj).2
    · rw [dif_neg h]
      refine (scatter_set_miss _ _ _ _ _ fun j hj => ?_).trans ?_
      · have := (l2 j hj).1
        have hj0 : (j 0).val < 2 := (j 0).isLt
        omega
      · exact (scatter_set_miss _ _ _ _ _ fun j hj => hr (l1 j hj).1).trans (hz _)

variable (m : (ℓ : Loc nD τ sig) → Buf (Elt Ideal) ℓ)

/-- The conditioning rows as the call is given them. -/
theorem V4_at (d : Dev nD) (r : Fin 8) (k : Fin 1024) :
    (show FVec Ideal S8x1024 .f32 from V m d main_v4) (ix2 r k)
      = condRows (m ((d : Thread nD τ).loc main_arg0)) (m ((d : Thread nD τ).loc main_arg1)) r k := by
  simp only [V, hostOps0, List.flatten_cons, List.flatten_nil, List.append_nil, List.cons_append,
    List.nil_append]
  entry_read
  refine rows_at _ (fun i => ?_) _ _ rfl rfl _ _ r k
  pointwise

/-- The shift as the call is given it. -/
theorem V5_at (d : Dev nD) (l : Fin 2) (n : Fin 6144) :
    (show FVec Ideal S2x1x6144 .f32 from V m d main_v5) (ix3 l 0 n)
      = (show FVec Ideal S2x6144 .f32 from m ((d : Thread nD τ).loc main_arg3)) (ix2 l n) := by
  simp only [V, hostOps0, List.flatten_cons, List.flatten_nil, List.append_nil, List.cons_append,
    List.nil_append]
  entry_read
  pointwise

end Cert.ModHost
-- ==== Proof.ModPay.lean ====
/-
  The modulation: what one grid point of the call stores, and the reference's entries.
-/
module

public import proofs.«01_k».proof.Proof.ModHost
public import proofs.«01_k».proof.Proof.MixFin
public import proofs.«01_k».proof.Proof.SpecFacts
public import proofs.«01_k».proof.Proof.Gen.Reference4Ideal.Read

@[expose] public section

set_option maxRecDepth 16384

noncomputable section

open Idealize.ShloMosaic Idealize.ShloMosaic.TcCoe Idealize.SL.Sem

namespace Cert.ModPay

open Cert.Kernel4Ideal Cert.Kernel4Ideal.Gen Cert.Layer Cert.Mix Cert.ModHost

/-- One entry of the modulation table: the gated conditioning row against a column, plus the shift. -/
def mo (s w : Fin 1024 → EReal) (b : EReal) : EReal := (∑ k, silu (s k) * w k) + b

/-- The gate of a finite value is finite. -/
theorem rl_silu {x : EReal} (h : Rl x) : Rl (silu x) := by
  obtain ⟨a, rfl⟩ := h
  have e : (1 : EReal) + Ideal.exp (0 - (a : EReal)) = ((1 + Real.exp (-a) : ℝ) : EReal) := by
    rw [zero_sub, ← EReal.coe_neg, Ideal.exp_coe, EReal.coe_add]; rfl
  unfold silu
  rw [e, Ideal.div_coe (by positivity : (1 + Real.exp (-a) : ℝ) ≠ 0)]
  exact (Rl.coe _).mul (Rl.coe _)

/-- A product of two finite rows taken in high and low parts is the product: the low parts are zero. -/
theorem split_sum (s w : Fin 1024 → EReal) (hs : ∀ k, Rl (s k)) (hw : ∀ k, Rl (w k)) (b : EReal) :
    (∑ k, s k * w k) + (∑ k, s k * (w k - w k)) + (∑ k, (s k - s k) * w k) + b = (∑ k, s k * w k) + b := by
  rw [Finset.sum_eq_zero (f := fun k => s k * (w k - w k)) fun k _ => by rw [(hw k).sub_self, mul_zero], Finset.sum_eq_zero (f := fun k => (s k - s k) * w k)
    fun k _ => by rw [(hs k).sub_self, zero_mul], add_zero, add_zero]

/-- What a grid point stores. -/
theorem pay1_at (v0 : FVec Ideal S8x1024 .f32) (v12 : FVec Ideal S1x1024x1536 .f32) (v23 : FVec Ideal S1x1x1536 .f32)
    (h0 : ∀ i, Rl (v0 i)) (h12 : ∀ i, Rl (v12 i)) (r : Fin 8) (n : Fin 1536) :
    k0_pay1 (F := Ideal) v0 v12 v23 (ix3 0 r n)
      = mo (fun k => v0 (ix2 r k)) (fun k => v12 (ix3 0 k n)) (v23 (ix3 0 0 n)) := by
  unfold mo
  rw [← split_sum _ _ (fun k => rl_silu (h0 _)) (fun k => h12 _)]
  pointwise [k0_pay1, silu]

open Cert.Reference4Ideal.Read in
/-- The reference's conditioning rows. -/
theorem ref_cond (c : FVec Ideal S2x1024 .f32) (ctx : FVec Ideal S1024 .f32) (r : Fin 8) (k : Fin 1024) :
    val_main_v2 (F := Ideal) c ctx (ix2 r k) = condRows c ctx r k := by
  unfold condRows
  pointwise [val_main_v2, val_main_v1, val_main_v0, val_main_cst]
  by_cases h : r.val = 0
  · rw [dif_pos (by omega), if_pos h]
  · rw [dif_neg (by omega), if_neg h]

open Cert.Reference4Ideal.Read in
/-- The reference's entries. -/
theorem ref_at (c : FVec Ideal S2x1024 .f32) (ctx : FVec Ideal S1024 .f32) (w : FVec Ideal S2x1024x6144 .f32)
    (b : FVec Ideal S2x6144 .f32) (l : Fin 2) (r : Fin 8) (n : Fin 6144) :
    val_main_v8 (F := Ideal) c ctx w b (ix3 l r n) = mo (condRows c ctx r) (fun k => w (ix3 l k n)) (b (ix2 l n)) := by
  have e : mo (condRows c ctx r) (fun k => w (ix3 l k n)) (b (ix2 l n))
      = (∑ k, w (ix3 l k n) * (condRows c ctx r k * Ideal.div 1 (1 + Ideal.exp (-(condRows c ctx r k))))) + b (ix2 l n) := by
    unfold mo; exact congrArg (· + _) (Finset.sum_congr rfl fun k _ => by rw [silu_eq, mul_comm])
  rw [e]
  pointwise [val_main_v8, val_main_v7, val_main_v6, val_main_v5, val_main_v4, val_main_v3, val_main_call0_v5, val_main_call0_v4,
    val_main_call0_v3, val_main_call0_v2, val_main_call0_v1, val_main_call0_v0, val_main_call0_cst, val_main_call0_cst_0, ref_cond]

end Cert.ModPay
-- ==== Proof.ModClaim.lean ====
/-
  The modulation call computes its reference, from finite conditioning vectors and weights.
-/
module

public import proofs.«01_k».proof.Defs
public import proofs.«01_k».proof.Proof.ModPay
public import proofs.«01_k».proof.Proof.MixPre
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)

namespace Cert.ModClaim

open Cert.Kernel4Ideal Cert.Kernel4Ideal.Gen Cert.Layer Cert.Mix Cert.ModHost Cert.ModPay

/-- Under the precondition the three arrays it names have finite entries. -/
theorem finite_apply [Cert.Pre_finite_mod.Facts] (a0 : FVec Ideal S2x1024 .f32) (a1 : FVec Ideal S1024 .f32)
    (a2 : FVec Ideal S2x1024x6144 .f32) (a3 : FVec Ideal S2x6144 .f32)
    (h : Cert.Pre_finite_mod.fn (F := Ideal) a0 a1 a2 a3 = fun _ => 1#1) :
    (∀ i, Rl (a0 i)) ∧ (∀ i, Rl (a1 i)) ∧ (∀ i, Rl (a2 i)) := by
  have j : Cert.Pre_finite_mod.S_.Idx := fun a => a.elim0
  have hs : ∀ i k : Cert.Pre_finite_mod.S_.Idx, i = k := fun i k => funext fun a => a.elim0
  unfold Cert.Pre_finite_mod.fn at h
  dsimp only at h
  obtain ⟨h, h2⟩ := Cert.MixPre.both_at _ _ _ (congrFun h j)
  obtain ⟨h0, h1⟩ := Cert.MixPre.both_at _ _ _ h
  refine ⟨?_, ?_, ?_⟩
  · exact Cert.MixPre.rl_of_max Cert.Pre_finite_mod.Facts.reducesTo_S2x1024_S_d0_1 Cert.Pre_finite_mod.Facts.h_S_ a0 hs j h0
  · exact Cert.MixPre.rl_of_max Cert.Pre_finite_mod.Facts.reducesTo_S1024_S_d0 Cert.Pre_finite_mod.Facts.h_S_ a1 hs j h1
  · exact Cert.MixPre.rl_of_max Cert.Pre_finite_mod.Facts.reducesTo_S2x1024x6144_S_d0_1_2 Cert.Pre_finite_mod.Facts.h_S_ a2 hs j h2

variable (m : (ℓ : Loc nD τ sig) → Buf (Elt Ideal) ℓ) (c : Dev nD)

/-! ## The argument arrays -/

abbrev C0 : FVec Ideal S2x1024 .f32 := m ((c : Thread nD τ).loc main_arg0)
abbrev C1 : FVec Ideal S1024 .f32 := m ((c : Thread nD τ).loc main_arg1)
abbrev C2 : FVec Ideal S2x1024x6144 .f32 := m ((c : Thread nD τ).loc main_arg2)
abbrev C3 : FVec Ideal S2x6144 .f32 := m ((c : Thread nD τ).loc main_arg3)

/-- Where each window's block lies at a grid point: four blocks of columns to each layer. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val < 8 :=
  (by decide +kernel : ∀ t : Fin grid0.N, _)

/-- The conditioning rows at a grid point. -/
theorem blk0_at (t : Fin cfg0.N) (r : Fin 8) (k : Fin 1024) :
    (show FVec Ideal S8x1024 .f32 from iblk m c 0 t) (ix2 r k) = condRows (C0 m c) (C1 m c) r k := by
  refine Eq.trans ?_ (V4_at m c r k)
  blk_ext [iblk, idx t]

/-- The columns of the weights at a grid point. -/
theorem blk1_at (t : Fin cfg0.N) (k : Fin 1024) (n : Fin 1536) (hl : t.val / 4 < 2) (hn : t.val % 4 * 1536 + n.val < 6144) :
    (show FVec Ideal S1x1024x1536 .f32 from iblk m c 1 t) (ix3 0 k n) = C2 m c (ix3 ⟨t.val / 4, hl⟩ k ⟨t.val % 4 * 1536 + n.val, hn⟩) := by
  blk_ext [iblk, V, idx t]

/-- The shift at a grid point. -/
theorem blk2_at (t : Fin cfg0.N) (n : Fin 1536) (hl : t.val / 4 < 2) (hn : t.val % 4 * 1536 + n.val < 6144) :
    (show FVec Ideal S1x1x1536 .f32 from iblk m c 2 t) (ix3 0 0 n) = C3 m c (ix2 ⟨t.val / 4, hl⟩ ⟨t.val % 4 * 1536 + n.val, hn⟩) := by
  refine Eq.trans ?_ (V5_at m c ⟨t.val / 4, hl⟩ ⟨t.val % 4 * 1536 + n.val, hn⟩)
  blk_ext [iblk, idx t]

/-- The rows made of finite vectors are finite. -/
theorem rl_rows {a : FVec Ideal S2x1024 .f32} {b : FVec Ideal S1024 .f32} (ha : ∀ i, Rl (a i)) (hb : ∀ i, Rl (b i)) (r : Fin 8)
    (k : Fin 1024) : Rl (condRows a b r k) := by
  unfold condRows
  split_ifs
  · exact hb _
  · exact ha _
  · exact Rl.zero

/-- The result array as the reference's term over the argument arrays. -/
abbrev REF (a : FVec Ideal S2x1024 .f32) (b : FVec Ideal S1024 .f32) (w : FVec Ideal S2x1024x6144 .f32) (s : FVec Ideal S2x6144 .f32) :
    FVec Ideal S2x8x6144 .f32 := Cert.Reference4Ideal.Read.val_main_v8 (F := Ideal) a b w s

/-- What a grid point leaves in its block of the result, from its input blocks. -/
theorem out_at (x0 : FVec Ideal S8x1024 .f32) (x1 : FVec Ideal S1x1024x1536 .f32) (x2 : FVec Ideal S1x1x1536 .f32)
    (s : Fin 8 → Fin 1024 → EReal) (w : Fin 1024 → Fin 1536 → EReal) (b : Fin 1536 → EReal)
    (h0 : ∀ r k, x0 (ix2 r k) = s r k) (h1 : ∀ k n, x1 (ix3 0 k n) = w k n) (h2 : ∀ n, x2 (ix3 0 0 n) = b n)
    (hs : ∀ r k, Rl (s r k)) (hw : ∀ k n, Rl (w k n)) (r : Fin 8) (n : Fin 1536) :
    out0_3 (F := Ideal) x0 x1 x2 (ix3 0 r n) = mo (s r) (fun k => w k n) (b n) := by
  have hz : (![0, 0] : Fin 2 → Nat) = fun _ => 0 := funext fun a => by fin_cases a <;> rfl
  have hz3 : (![0, 0, 0] : Fin 3 → Nat) = fun _ => 0 := funext fun a => by fin_cases a <;> rfl
  have hb0 : ∀ i, Rl (x0 i) := fun i => by
    obtain ⟨r, k, rfl⟩ : ∃ (r : Fin 8) (k : Fin 1024), i = ix2 r k := ⟨i 0, i 1, eq_ix2 i⟩
    rw [h0]; exact hs r k
  have hb1 : ∀ i, Rl (x1 i) := fun i => by
    obtain ⟨a, k, n, rfl⟩ : ∃ (a : Fin 1) (k : Fin 1024) (n : Fin 1536), i = ix3 a k n := ⟨i 0, i 1, i 2, eq_ix3 i⟩
    obtain rfl : a = 0 := Subsingleton.elim _ _
    rw [h1]; exact hw k n
  unfold out0_3
  rw [View.canon_unit_zero hz3, View.ld_unit_zero hz, View.ld_unit_zero hz3, View.ld_unit_zero hz3, pay1_at _ _ _ hb0 hb1]
  simp only [h0, h1, h2]

/-- What a grid point leaves at an index of its block is the reference's value at the array index it sits at. -/
theorem point (t : Fin cfg0.N) (h0 : ∀ i, Rl (C0 m c i)) (h1 : ∀ i, Rl (C1 m c i)) (h2 : ∀ i, Rl (C2 m c i)) (r : Fin 8) (n : Fin 1536)
    (hl : t.val / 4 < 2) (hn : ∀ n : Fin 1536, t.val % 4 * 1536 + n.val < 6144) :
    out0_3 (F := Ideal) (iblk m c 0 t) (iblk m c 1 t) (iblk m c 2 t) (ix3 0 r n)
      = REF (C0 m c) (C1 m c) (C2 m c) (C3 m c) (ix3 ⟨t.val / 4, hl⟩ r ⟨t.val % 4 * 1536 + n.val, hn n⟩) :=
  (out_at _ _ _ (condRows (C0 m c) (C1 m c)) (fun k n => C2 m c (ix3 ⟨t.val / 4, hl⟩ k ⟨t.val % 4 * 1536 + n.val, hn n⟩))
    (fun n => C3 m c (ix2 ⟨t.val / 4, hl⟩ ⟨t.val % 4 * 1536 + n.val, hn n⟩)) (fun r k => blk0_at m c t r k)
    (fun k n => blk1_at m c t k n hl (hn n)) (fun n => blk2_at m c t n hl (hn n)) (rl_rows h0 h1) (fun k n => h2 _) r n).trans
    (ref_at _ _ _ _ _ _ _).symm

/-- The call's result array is the reference's. -/
theorem final (h0 : ∀ i, Rl (C0 m c i)) (h1 : ∀ i, Rl (C1 m c i)) (h2 : ∀ i, Rl (C2 m c i)) :
    (dats m 0 c).arrAt 3 (cfgs 0).N = REF (C0 m c) (C1 m c) (C2 m c) (C3 m c) := by
  refine (dats m 0 c).arrAt_eq_of_covers 3 _ (by decide +kernel) fun t _ y => ?_
  blk_simp
  rw [after0_3]
  obtain ⟨a, r, n, rfl⟩ : ∃ (a : Fin 1) (r : Fin 8) (n : Fin 1536), y = ix3 a r n := ⟨y 0, y 1, y 2, eq_ix3 y⟩
  obtain rfl : a = 0 := Subsingleton.elim _ _
  have ht := (idx t).2.2.2.2
  refine (point m c t h0 h1 h2 r n (by omega) (fun n => by omega)).trans (congrArg _ ?_)
  blk_ext [idx t]

/-- From memories agreeing on the arguments, finite where the precondition asks it, the call and its reference end with the
    same result array. -/
theorem algebraic [Cert.Kernel4Ideal.Facts] [Cert.Reference4Ideal.Facts] [Cert.Pre_finite_mod.Facts] :
    Cert.algebraic_Kernel4Ideal_Reference4Ideal_pre_finite_mod := by
  intro m g m' g' hpre hagree
  have hfin := fun c => finite_apply _ _ _ _ (hpre c)
  refine ⟨fun c => REF (C0 m c) (C1 m c) (C2 m c) (C3 m c), ?_, ?_⟩
  · refine (θ_run Cert.Kernel4Ideal.defs _ _).mono (fun _ h c => ⟨?_, (h c).2⟩) (Cert.Kernel4Ideal.Value.run_blocks m g)
    exact (h c).1.trans (final m c (hfin c).1 (hfin c).2.1 (hfin c).2.2)
  · refine (θ_run Cert.Reference4Ideal.defs _ _).mono (fun _ h c => ⟨(h c).1.trans ?_, (h c).2⟩) (Cert.Reference4Ideal.Value.run m' g')
    obtain ⟨h0, h1, h2, h3⟩ := hagree c
    rw [Cert.Reference4Ideal.Read.val_main_v8_eq, h0, h1, h2, h3]

end Cert.ModClaim
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_mod
public import proofs.«01_k».proof.Proof.Gen.Pre_finite_all
public import proofs.«01_k».proof.Proof.Gen.On_context_rows_all
public import proofs.«01_k».proof.Proof.Gen.Pre_finite
public import proofs.«01_k».proof.Proof.Gen.On_context_rows
public import proofs.«01_k».proof.Proof.FfnClaim
public import proofs.«01_k».proof.Proof.MixClaim
public import proofs.«01_k».proof.Proof.MixSecond
public import proofs.«01_k».proof.Proof.ModClaim
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  Cert.Pre_finite_all.Gen.facts, Cert.Pre_finite_mod.Gen.facts, Cert.On_context_rows.Gen.facts, Cert.On_context_rows_all.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun _ h => ⟨fun c => (h c).2.2.2, funext fun x => by nomatch x⟩)
    (Cert.ReferenceIdeal.Value.run m ρ),
  fun m ρ _ => (θ_run Cert.ReferenceIdeal.defs _ _).mono (fun _ h => ⟨fun c => (h c).2.2.2, funext fun x => by nomatch x⟩)
    (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun _ h => ⟨fun c => (h c).2, funext fun x => by nomatch x⟩)
    (Cert.Reference2Ideal.Value.run m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run Cert.Reference3Ideal.defs _ _).mono (fun _ h => ⟨fun c => (h c).2.2.2, funext fun x => by nomatch x⟩)
    (Cert.Reference3Ideal.Value.run m ρ),
  fun m ρ _ => (θ_run Cert.Reference3Ideal.defs _ _).mono (fun _ h => ⟨fun c => (h c).2.2.2, funext fun x => by nomatch x⟩)
    (Cert.Reference3Ideal.Value.run m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run Cert.Reference4Ideal.defs _ _).mono (fun _ h => ⟨fun c => (h c).2, funext fun x => by nomatch x⟩)
    (Cert.Reference4Ideal.Value.run m ρ),
  fun m ρ _ => (θ_run Cert.Reference4Ideal.defs _ _).mono (fun _ h => ⟨fun c => (h c).2, funext fun x => by nomatch x⟩)
    (Cert.Reference4Ideal.Value.run m ρ),
  trivial,
  Cert.MixClaim.algebraic,
  trivial,
  Cert.FfnClaim.algebraic,
  trivial,
  Cert.MixSecond.algebraic,
  trivial,
  Cert.ModClaim.algebraic⟩

end Cert.Proof

end
